-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32768 : Shape := ⟨2, ![128, 32768]⟩
abbrev S4194304 : Shape := ⟨1, ![4194304]⟩
abbrev S32x16 : Shape := ⟨2, ![32, 16]⟩
abbrev S32768 : Shape := ⟨1, ![32768]⟩
abbrev S16 : Shape := ⟨1, ![16]⟩
abbrev S_ : Shape := ⟨0, ![]⟩
abbrev S1x16 : Shape := ⟨2, ![1, 16]⟩
abbrev S32x4 : Shape := ⟨2, ![32, 4]⟩
abbrev S128 : Shape := ⟨1, ![128]⟩

abbrev nBuf : Table → Nat
  | .hbm => 5
  | .local .scVector .vmem => 5
  | _ => 0

abbrev bufTy : (tb : Table) → Fin (nBuf tb) → BufTy
  | .hbm, ⟨0, _⟩ => ⟨S128x32768, .f32⟩
  | .hbm, ⟨1, _⟩ => ⟨S4194304, .f32⟩
  | .hbm, ⟨2, _⟩ => ⟨S32x16, .i32⟩
  | .hbm, ⟨3, _⟩ => ⟨S32x4, .i32⟩
  | .hbm, ⟨4, _⟩ => ⟨S128, .i32⟩
  | .local .scVector .vmem, ⟨0, _⟩ => ⟨S32768, .f32⟩
  | .local .scVector .vmem, ⟨1, _⟩ => ⟨S32768, .f32⟩
  | .local .scVector .vmem, ⟨2, _⟩ => ⟨S16, .i32⟩
  | .local .scVector .vmem, ⟨3, _⟩ => ⟨S16, .f32⟩
  | .local .scVector .vmem, ⟨4, _⟩ => ⟨S16, .i32⟩
  | _, _ => ⟨S128x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v2 : BitVec 32 := Scalar.muli v1 c4_i32
  let v4 : BitVec 32 := Scalar.addi v2 c0_i32
  let c32768_i32 : BitVec 32 := 32768#32
  let v5 : BitVec 32 := Scalar.muli v4 c32768_i32
  ![v5.toNat]
@[reducible] def k0_t1_loop : Scf.Loop 32 :=
  let c0_i32_3 : BitVec 32 := 0#32
  let c2048_i32 : BitVec 32 := 2048#32
  let v17 : BitVec 32 := Scalar.addi c0_i32_3 c2048_i32
  let c1_i32_4 : BitVec 32 := 1#32
  ⟨c0_i32_3, v17, c1_i32_4⟩
def k0_off2 (k0_t1 : Fin k0_t1_loop.trips) : Fin 1 → Nat :=
  let c0_i32_3 : BitVec 32 := 0#32
  let c1_i32_4 : BitVec 32 := 1#32
  let arg11 : BitVec 32 := Scf.iv c0_i32_3 c1_i32_4 k0_t1
  let c16_i32_81 : BitVec 32 := 16#32
  let v278 : BitVec 32 := Scalar.muli arg11 c16_i32_81
  let v279 : Index := Scalar.indexCast v278
  ![v279.toNat]

def k0_chk1 (v25 : IVec S16 32) : Prop :=
  (∀ a x, ((![v25] : Fin 1 → IVec S16 32) a x).toNat < S16.size a) ∧
  (∀ a x, ((![v25] : Fin 1 → IVec S16 32) a x).toNat < S16.size a)
theorem k0_idx1_inb : ∀ (v25 : IVec S16 32) (k0_hw1 : k0_chk1 v25), ∀ a x, ((![v25] : Fin 1 → IVec S16 32) a x).toNat < S16.size a := fun v25 k0_hw1 => k0_hw1.1
theorem k0_idx2_inb : ∀ (v25 : IVec S16 32) (k0_hw1 : k0_chk1 v25), ∀ a x, ((![v25] : Fin 1 → IVec S16 32) a x).toNat < S16.size a := fun v25 k0_hw1 => k0_hw1.2

def k0_chk2 (v38 : IVec S16 32) : Prop :=
  (∀ a x, ((![v38] : Fin 1 → IVec S16 32) a x).toNat < S16.size a) ∧
  (∀ a x, ((![v38] : Fin 1 → IVec S16 32) a x).toNat < S16.size a)
theorem k0_idx3_inb : ∀ (v38 : IVec S16 32) (k0_hw2 : k0_chk2 v38), ∀ a x, ((![v38] : Fin 1 → IVec S16 32) a x).toNat < S16.size a := fun v38 k0_hw2 => k0_hw2.1
theorem k0_idx4_inb : ∀ (v38 : IVec S16 32) (k0_hw2 : k0_chk2 v38), ∀ a x, ((![v38] : Fin 1 → IVec S16 32) a x).toNat < S16.size a := fun v38 k0_hw2 => k0_hw2.2

def k0_chk3 (v51 : IVec S16 32) : Prop :=
  (∀ a x, ((![v51] : Fin 1 → IVec S16 32) a x).toNat < S16.size a) ∧
  (∀ a x, ((![v51] : Fin 1 → IVec S16 32) a x).toNat < S16.size a)
theorem k0_idx5_inb : ∀ (v51 : IVec S16 32) (k0_hw3 : k0_chk3 v51), ∀ a x, ((![v51] : Fin 1 → IVec S16 32) a x).toNat < S16.size a := fun v51 k0_hw3 => k0_hw3.1
theorem k0_idx6_inb : ∀ (v51 : IVec S16 32) (k0_hw3 : k0_chk3 v51), ∀ a x, ((![v51] : Fin 1 → IVec S16 32) a x).toNat < S16.size a := fun v51 k0_hw3 => k0_hw3.2

def k0_chk4 (v64 : IVec S16 32) : Prop :=
  (∀ a x, ((![v64] : Fin 1 → IVec S16 32) a x).toNat < S16.size a) ∧
  (∀ a x, ((![v64] : Fin 1 → IVec S16 32) a x).toNat < S16.size a)
theorem k0_idx7_inb : ∀ (v64 : IVec S16 32) (k0_hw4 : k0_chk4 v64), ∀ a x, ((![v64] : Fin 1 → IVec S16 32) a x).toNat < S16.size a := fun v64 k0_hw4 => k0_hw4.1
theorem k0_idx8_inb : ∀ (v64 : IVec S16 32) (k0_hw4 : k0_chk4 v64), ∀ a x, ((![v64] : Fin 1 → IVec S16 32) a x).toNat < S16.size a := fun v64 k0_hw4 => k0_hw4.2
def k0_off3 (i : grid0.Coords) (c2_i32_17 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v2 : BitVec 32 := Scalar.muli v1 c4_i32
  let v77 : BitVec 32 := Scalar.addi v2 c2_i32_17
  let c32768_i32_18 : BitVec 32 := 32768#32
  let v78 : BitVec 32 := Scalar.muli v77 c32768_i32_18
  ![v78.toNat]
@[reducible] def k0_t2_loop : Scf.Loop 32 :=
  let c0_i32_21 : BitVec 32 := 0#32
  let c2048_i32_22 : BitVec 32 := 2048#32
  let v85 : BitVec 32 := Scalar.addi c0_i32_21 c2048_i32_22
  let c1_i32_23 : BitVec 32 := 1#32
  ⟨c0_i32_21, v85, c1_i32_23⟩
def k0_off4 (k0_t2 : Fin k0_t2_loop.trips) : Fin 1 → Nat :=
  let c0_i32_21 : BitVec 32 := 0#32
  let c1_i32_23 : BitVec 32 := 1#32
  let arg11 : BitVec 32 := Scf.iv c0_i32_21 c1_i32_23 k0_t2
  let c16_i32_81 : BitVec 32 := 16#32
  let v278 : BitVec 32 := Scalar.muli arg11 c16_i32_81
  let v279 : Index := Scalar.indexCast v278
  ![v279.toNat]

def k0_chk5 (v93 : IVec S16 32) : Prop :=
  (∀ a x, ((![v93] : Fin 1 → IVec S16 32) a x).toNat < S16.size a) ∧
  (∀ a x, ((![v93] : Fin 1 → IVec S16 32) a x).toNat < S16.size a)
theorem k0_idx9_inb : ∀ (v93 : IVec S16 32) (k0_hw5 : k0_chk5 v93), ∀ a x, ((![v93] : Fin 1 → IVec S16 32) a x).toNat < S16.size a := fun v93 k0_hw5 => k0_hw5.1
theorem k0_idx10_inb : ∀ (v93 : IVec S16 32) (k0_hw5 : k0_chk5 v93), ∀ a x, ((![v93] : Fin 1 → IVec S16 32) a x).toNat < S16.size a := fun v93 k0_hw5 => k0_hw5.2

def k0_chk6 (v106 : IVec S16 32) : Prop :=
  (∀ a x, ((![v106] : Fin 1 → IVec S16 32) a x).toNat < S16.size a) ∧
  (∀ a x, ((![v106] : Fin 1 → IVec S16 32) a x).toNat < S16.size a)
theorem k0_idx11_inb : ∀ (v106 : IVec S16 32) (k0_hw6 : k0_chk6 v106), ∀ a x, ((![v106] : Fin 1 → IVec S16 32) a x).toNat < S16.size a := fun v106 k0_hw6 => k0_hw6.1
theorem k0_idx12_inb : ∀ (v106 : IVec S16 32) (k0_hw6 : k0_chk6 v106), ∀ a x, ((![v106] : Fin 1 → IVec S16 32) a x).toNat < S16.size a := fun v106 k0_hw6 => k0_hw6.2

def k0_chk7 (v119 : IVec S16 32) : Prop :=
  (∀ a x, ((![v119] : Fin 1 → IVec S16 32) a x).toNat < S16.size a) ∧
  (∀ a x, ((![v119] : Fin 1 → IVec S16 32) a x).toNat < S16.size a)
theorem k0_idx13_inb : ∀ (v119 : IVec S16 32) (k0_hw7 : k0_chk7 v119), ∀ a x, ((![v119] : Fin 1 → IVec S16 32) a x).toNat < S16.size a := fun v119 k0_hw7 => k0_hw7.1
theorem k0_idx14_inb : ∀ (v119 : IVec S16 32) (k0_hw7 : k0_chk7 v119), ∀ a x, ((![v119] : Fin 1 → IVec S16 32) a x).toNat < S16.size a := fun v119 k0_hw7 => k0_hw7.2

def k0_chk8 (v132 : IVec S16 32) : Prop :=
  (∀ a x, ((![v132] : Fin 1 → IVec S16 32) a x).toNat < S16.size a) ∧
  (∀ a x, ((![v132] : Fin 1 → IVec S16 32) a x).toNat < S16.size a)
theorem k0_idx15_inb : ∀ (v132 : IVec S16 32) (k0_hw8 : k0_chk8 v132), ∀ a x, ((![v132] : Fin 1 → IVec S16 32) a x).toNat < S16.size a := fun v132 k0_hw8 => k0_hw8.1
theorem k0_idx16_inb : ∀ (v132 : IVec S16 32) (k0_hw8 : k0_chk8 v132), ∀ a x, ((![v132] : Fin 1 → IVec S16 32) a x).toNat < S16.size a := fun v132 k0_hw8 => k0_hw8.2
def k0_off5 (i : grid0.Coords) (c3_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v2 : BitVec 32 := Scalar.muli v1 c4_i32
  let v145 : BitVec 32 := Scalar.addi v2 c3_i32
  let c32768_i32_39 : BitVec 32 := 32768#32
  let v146 : BitVec 32 := Scalar.muli v145 c32768_i32_39
  ![v146.toNat]
@[reducible] def k0_t3_loop : Scf.Loop 32 :=
  let c0_i32_42 : BitVec 32 := 0#32
  let c2048_i32_43 : BitVec 32 := 2048#32
  let v153 : BitVec 32 := Scalar.addi c0_i32_42 c2048_i32_43
  let c1_i32_44 : BitVec 32 := 1#32
  ⟨c0_i32_42, v153, c1_i32_44⟩
def k0_off6 (k0_t3 : Fin k0_t3_loop.trips) : Fin 1 → Nat :=
  let c0_i32_42 : BitVec 32 := 0#32
  let c1_i32_44 : BitVec 32 := 1#32
  let arg11 : BitVec 32 := Scf.iv c0_i32_42 c1_i32_44 k0_t3
  let c16_i32_81 : BitVec 32 := 16#32
  let v278 : BitVec 32 := Scalar.muli arg11 c16_i32_81
  let v279 : Index := Scalar.indexCast v278
  ![v279.toNat]

def k0_chk9 (v161 : IVec S16 32) : Prop :=
  (∀ a x, ((![v161] : Fin 1 → IVec S16 32) a x).toNat < S16.size a) ∧
  (∀ a x, ((![v161] : Fin 1 → IVec S16 32) a x).toNat < S16.size a)
theorem k0_idx17_inb : ∀ (v161 : IVec S16 32) (k0_hw9 : k0_chk9 v161), ∀ a x, ((![v161] : Fin 1 → IVec S16 32) a x).toNat < S16.size a := fun v161 k0_hw9 => k0_hw9.1
theorem k0_idx18_inb : ∀ (v161 : IVec S16 32) (k0_hw9 : k0_chk9 v161), ∀ a x, ((![v161] : Fin 1 → IVec S16 32) a x).toNat < S16.size a := fun v161 k0_hw9 => k0_hw9.2

def k0_chk10 (v174 : IVec S16 32) : Prop :=
  (∀ a x, ((![v174] : Fin 1 → IVec S16 32) a x).toNat < S16.size a) ∧
  (∀ a x, ((![v174] : Fin 1 → IVec S16 32) a x).toNat < S16.size a)
theorem k0_idx19_inb : ∀ (v174 : IVec S16 32) (k0_hw10 : k0_chk10 v174), ∀ a x, ((![v174] : Fin 1 → IVec S16 32) a x).toNat < S16.size a := fun v174 k0_hw10 => k0_hw10.1
theorem k0_idx20_inb : ∀ (v174 : IVec S16 32) (k0_hw10 : k0_chk10 v174), ∀ a x, ((![v174] : Fin 1 → IVec S16 32) a x).toNat < S16.size a := fun v174 k0_hw10 => k0_hw10.2

def k0_chk11 (v187 : IVec S16 32) : Prop :=
  (∀ a x, ((![v187] : Fin 1 → IVec S16 32) a x).toNat < S16.size a) ∧
  (∀ a x, ((![v187] : Fin 1 → IVec S16 32) a x).toNat < S16.size a)
theorem k0_idx21_inb : ∀ (v187 : IVec S16 32) (k0_hw11 : k0_chk11 v187), ∀ a x, ((![v187] : Fin 1 → IVec S16 32) a x).toNat < S16.size a := fun v187 k0_hw11 => k0_hw11.1
theorem k0_idx22_inb : ∀ (v187 : IVec S16 32) (k0_hw11 : k0_chk11 v187), ∀ a x, ((![v187] : Fin 1 → IVec S16 32) a x).toNat < S16.size a := fun v187 k0_hw11 => k0_hw11.2

def k0_chk12 (v200 : IVec S16 32) : Prop :=
  (∀ a x, ((![v200] : Fin 1 → IVec S16 32) a x).toNat < S16.size a) ∧
  (∀ a x, ((![v200] : Fin 1 → IVec S16 32) a x).toNat < S16.size a)
theorem k0_idx23_inb : ∀ (v200 : IVec S16 32) (k0_hw12 : k0_chk12 v200), ∀ a x, ((![v200] : Fin 1 → IVec S16 32) a x).toNat < S16.size a := fun v200 k0_hw12 => k0_hw12.1
theorem k0_idx24_inb : ∀ (v200 : IVec S16 32) (k0_hw12 : k0_chk12 v200), ∀ a x, ((![v200] : Fin 1 → IVec S16 32) a x).toNat < S16.size a := fun v200 k0_hw12 => k0_hw12.2
def k0_off7 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v2 : BitVec 32 := Scalar.muli v1 c4_i32
  let c3_i32 : BitVec 32 := 3#32
  let v145 : BitVec 32 := Scalar.addi v2 c3_i32
  let c32768_i32_39 : BitVec 32 := 32768#32
  let v146 : BitVec 32 := Scalar.muli v145 c32768_i32_39
  ![v146.toNat]
@[reducible] def k0_t4_loop : Scf.Loop 32 :=
  let c0_i32_62 : BitVec 32 := 0#32
  let c2048_i32_63 : BitVec 32 := 2048#32
  let v217 : BitVec 32 := Scalar.addi c0_i32_62 c2048_i32_63
  let c1_i32_64 : BitVec 32 := 1#32
  ⟨c0_i32_62, v217, c1_i32_64⟩
def k0_off8 (k0_t4 : Fin k0_t4_loop.trips) : Fin 1 → Nat :=
  let c0_i32_62 : BitVec 32 := 0#32
  let c1_i32_64 : BitVec 32 := 1#32
  let arg11 : BitVec 32 := Scf.iv c0_i32_62 c1_i32_64 k0_t4
  let c16_i32_81 : BitVec 32 := 16#32
  let v278 : BitVec 32 := Scalar.muli arg11 c16_i32_81
  let v279 : Index := Scalar.indexCast v278
  ![v279.toNat]

def k0_chk13 (v225 : IVec S16 32) : Prop :=
  (∀ a x, ((![v225] : Fin 1 → IVec S16 32) a x).toNat < S16.size a) ∧
  (∀ a x, ((![v225] : Fin 1 → IVec S16 32) a x).toNat < S16.size a)
theorem k0_idx25_inb : ∀ (v225 : IVec S16 32) (k0_hw13 : k0_chk13 v225), ∀ a x, ((![v225] : Fin 1 → IVec S16 32) a x).toNat < S16.size a := fun v225 k0_hw13 => k0_hw13.1
theorem k0_idx26_inb : ∀ (v225 : IVec S16 32) (k0_hw13 : k0_chk13 v225), ∀ a x, ((![v225] : Fin 1 → IVec S16 32) a x).toNat < S16.size a := fun v225 k0_hw13 => k0_hw13.2

def k0_chk14 (v238 : IVec S16 32) : Prop :=
  (∀ a x, ((![v238] : Fin 1 → IVec S16 32) a x).toNat < S16.size a) ∧
  (∀ a x, ((![v238] : Fin 1 → IVec S16 32) a x).toNat < S16.size a)
theorem k0_idx27_inb : ∀ (v238 : IVec S16 32) (k0_hw14 : k0_chk14 v238), ∀ a x, ((![v238] : Fin 1 → IVec S16 32) a x).toNat < S16.size a := fun v238 k0_hw14 => k0_hw14.1
theorem k0_idx28_inb : ∀ (v238 : IVec S16 32) (k0_hw14 : k0_chk14 v238), ∀ a x, ((![v238] : Fin 1 → IVec S16 32) a x).toNat < S16.size a := fun v238 k0_hw14 => k0_hw14.2

def k0_chk15 (v251 : IVec S16 32) : Prop :=
  (∀ a x, ((![v251] : Fin 1 → IVec S16 32) a x).toNat < S16.size a) ∧
  (∀ a x, ((![v251] : Fin 1 → IVec S16 32) a x).toNat < S16.size a)
theorem k0_idx29_inb : ∀ (v251 : IVec S16 32) (k0_hw15 : k0_chk15 v251), ∀ a x, ((![v251] : Fin 1 → IVec S16 32) a x).toNat < S16.size a := fun v251 k0_hw15 => k0_hw15.1
theorem k0_idx30_inb : ∀ (v251 : IVec S16 32) (k0_hw15 : k0_chk15 v251), ∀ a x, ((![v251] : Fin 1 → IVec S16 32) a x).toNat < S16.size a := fun v251 k0_hw15 => k0_hw15.2

def k0_chk16 (v264 : IVec S16 32) : Prop :=
  (∀ a x, ((![v264] : Fin 1 → IVec S16 32) a x).toNat < S16.size a) ∧
  (∀ a x, ((![v264] : Fin 1 → IVec S16 32) a x).toNat < S16.size a)
theorem k0_idx31_inb : ∀ (v264 : IVec S16 32) (k0_hw16 : k0_chk16 v264), ∀ a x, ((![v264] : Fin 1 → IVec S16 32) a x).toNat < S16.size a := fun v264 k0_hw16 => k0_hw16.1
theorem k0_idx32_inb : ∀ (v264 : IVec S16 32) (k0_hw16 : k0_chk16 v264), ∀ a x, ((![v264] : Fin 1 → IVec S16 32) a x).toNat < S16.size a := fun v264 k0_hw16 => k0_hw16.2
def k0_off9 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_81_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32768 : Shape := ⟨2, ![128, 32768]⟩
abbrev S_ : Shape := ⟨0, ![]⟩
abbrev S128 : Shape := ⟨1, ![128]⟩

abbrev nBuf : Space → Nat
  | .hbm => 6
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .i32⟩
  | .hbm, ⟨2, _⟩ => ⟨S_, .f32⟩
  | .hbm, ⟨3, _⟩ => ⟨S_, .i32⟩
  | .hbm, ⟨4, _⟩ => ⟨S128, .f32⟩
  | .hbm, ⟨5, _⟩ => ⟨S128, .i32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩

abbrev nD : Nat := 1
abbrev τ : Topo := Topo.v7x

variable {F : FTy → Type} [FloatOps F]
-- ==== Proof.Scan.lean ====
/-
  What one tile computes, as functions of arrays: the running maximum of a row by lanes, the four exchanges that bring
  the lanes together, and the sixteen words the tile leaves. No program is mentioned here.
-/
module

public import Idealize.ShloMosaic.Lib.SparseCore
public import Idealize.ShloMosaic.Lib.Scf

@[expose] public section

noncomputable section

namespace Cert.Proof.Argmax

open Idealize.ShloMosaic

/-- Sixteen lanes. -/
abbrev L16 : Shape := ⟨1, ![16]⟩
/-- One row of the operand. -/
abbrev Row : Shape := ⟨1, ![32768]⟩
/-- The operand flattened: 128 rows end to end. -/
abbrev Flat : Shape := ⟨1, ![4194304]⟩
/-- What the tiles leave: a row of sixteen words per tile. -/
abbrev Tiles : Shape := ⟨2, ![32, 16]⟩

theorem iota_lanes : L16.Iotas .scVector 32 [0] := by decide

variable {F : FTy → Type} [FloatOps F]

/-- The lanes' own numbers, 0 to 15. -/
def lanes : IVec L16 32 := iota .scVector L16 32 [0] iota_lanes

/-- Row `r` of the flattened operand `X`. -/
def rowAt (X : Flat.Idx → F .f32) (r : Nat) : Vec F Row .f32 :=
  fun x => X (fun a => match a with | ⟨0, _⟩ => ⟨(32768 * r + (x 0).val) % 4194304, Nat.mod_lt _ (by decide)⟩)

/-- The sixteen elements of a row that chunk `k` holds: elements `16 k` to `16 k + 15`. -/
def chunk (X : Vec F Row .f32) (k : Nat) : Vec F L16 .f32 :=
  fun x => X (fun a => match a with | ⟨0, _⟩ => ⟨(16 * k + (x 0).val) % 32768, Nat.mod_lt _ (by decide)⟩)

/-- Before the first chunk: every lane at the word of minus infinity, chunk number 0. -/
def start : FVec F L16 .f32 × IVec L16 32 := (broadcast L16 (Scalar.ofBits .f32 0xFF800000#32), broadcast L16 0#32)

/-- One chunk `v`, the `k`-th: a lane that sees a strictly greater element takes it and the chunk's number. -/
def step (k : Nat) (acc : FVec F L16 .f32 × IVec L16 32) (v : Vec F L16 .f32) : FVec F L16 .f32 × IVec L16 32 :=
  (select (cmpf .ogt v acc.1) v acc.1, select (cmpf .ogt v acc.1) (broadcast L16 (Scf.iv 0#32 1#32 k)) acc.2)

/-- The lanes' maxima, and the chunks they were first met in, over the first `n` chunks of the row. -/
def scan (X : Vec F Row .f32) : Nat → FVec F L16 .f32 × IVec L16 32
  | 0 => start
  | n + 1 => step n (scan X n) (chunk X n)

theorem scan_zero (X : Vec F Row .f32) : scan X 0 = start := rfl
theorem scan_succ (X : Vec F Row .f32) (n : Nat) : scan X (n + 1) = step n (scan X n) (chunk X n) := rfl

attribute [irreducible] scan

/-- Lane `l` reads the element of `w` the index vector names for it. -/
def gather {e : EltTy} (w : Vec F L16 e) (idx : IVec L16 32) : Vec F L16 e :=
  fun x => w (fun a => match a with | ⟨0, _⟩ => ⟨(idx x).toNat % 16, Nat.mod_lt _ (by decide)⟩)

/-- The lane each lane exchanges with: its own number with the bits of `b` flipped. -/
def partner (b : BitVec 32) : IVec L16 32 := xori lanes (broadcast L16 b)

/-- The better of two candidates, lane by lane: the greater value, and of equal values the smaller index. -/
def better (p q : Vec F L16 .f32 × Vec F L16 .i32) : Vec F L16 .f32 × Vec F L16 .i32 :=
  (select (ori (cmpf .ogt q.1 p.1) (andi (cmpf .oeq q.1 p.1) (cmpi .slt q.2 p.2))) q.1 p.1,
    select (ori (cmpf .ogt q.1 p.1) (andi (cmpf .oeq q.1 p.1) (cmpi .slt q.2 p.2))) q.2 p.2)

/-- One exchange: every lane keeps the better of its own candidate and its partner's. -/
def exchange (b : BitVec 32) (p : Vec F L16 .f32 × Vec F L16 .i32) : Vec F L16 .f32 × Vec F L16 .i32 :=
  better p (gather p.1 (partner b), gather p.2 (partner b))

/-- The lanes' candidates after the whole row: the maximum and the element it was first met at. -/
def found (X : Vec F Row .f32) : Vec F L16 .f32 × Vec F L16 .i32 :=
  ((scan X 2048).1, addi (muli (scan X 2048).2 (broadcast L16 16#32)) lanes)

/-- The row's answer, the same in every lane: the four exchanges. -/
def rowArg (X : Vec F Row .f32) : Vec F L16 .i32 := (exchange 1#32 (exchange 2#32 (exchange 4#32 (exchange 8#32 (found X))))).2

/-- Lane `r` takes `v`, every other lane keeps `w`. -/
def place (r : BitVec 32) (v w : Vec F L16 .i32) : Vec F L16 .i32 := select (cmpi .eq lanes (broadcast L16 r)) v w

/-- The tile's sixteen words: lanes 0 to 3 the answers of its four rows, the rest 0. -/
def tileWords (X₀ X₁ X₂ X₃ : Vec F Row .f32) : Vec F L16 .i32 :=
  place 3#32 (rowArg X₃) (place 2#32 (rowArg X₂) (place 1#32 (rowArg X₁) (place 0#32 (rowArg X₀) (broadcast L16 0#32))))

/-- What all the tiles leave: tile `w`'s sixteen words in row `w`, its rows being `4 w` to `4 w + 3` of the operand. -/
def allWords (X : Flat.Idx → F .f32) : Vec F Tiles .i32 := fun i =>
  tileWords (rowAt X (4 * (i 0).val)) (rowAt X (4 * (i 0).val + 1)) (rowAt X (4 * (i 0).val + 2)) (rowAt X (4 * (i 0).val + 3))
    (fun a => match a with | ⟨0, _⟩ => ⟨(i 1).val, (i 1).isLt⟩)

end Cert.Proof.Argmax

end
-- ==== Proof.IdealBase.lean ====
/-
  The kernel's names, and what its single accesses read and write: a row of the operand fetched, a chunk of a row loaded,
  a pair of small buffers stored and read back through an index vector.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Scan

@[expose] public section

noncomputable section

namespace Cert.Proof.KernelIdeal

open Cert.KernelIdeal Cert.KernelIdeal.Gen Cert.Proof.Argmax

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's facts about the semaphores the two levels of the machine shake hands on. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch buffers -/

/-- The operand, the flattened operand, what the tiles leave, its first four columns and the result, as locations of device `d`. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev sLoc (d : Dev nD) : Loc nD τ sig := (SparseCore.T d).loc main_v2
abbrev rLoc (d : Dev nD) : Loc nD τ sig := (SparseCore.T d).loc main_v3

/-- The arrays and the scratch buffers as the kernel is handed them: the flattened operand, the tiles' results, the two row
    buffers, the tile's sixteen words, and the two buffers the lanes exchange values and indices through. -/
abbrev xV : Memref sig .scVector .hbm S4194304 .f32 := Memref.whole main_v0_scv
abbrev oV : Memref sig .scVector .hbm S32x16 .i32 := Memref.whole main_v1_scv
abbrev bA : Memref sig .scVector .vmem S32768 .f32 := Memref.whole cc0_scratch0
abbrev bB : Memref sig .scVector .vmem S32768 .f32 := Memref.whole cc0_scratch1
abbrev sR : Memref sig .scVector .vmem S16 .i32 := Memref.whole cc0_scratch2
abbrev sM : Memref sig .scVector .vmem S16 .f32 := Memref.whole cc0_scratch3
abbrev sI : Memref sig .scVector .vmem S16 .i32 := Memref.whole cc0_scratch4

variable [FloatOps F]

/-! ## The tile and its pieces of the arrays -/

section Tile

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- The tile's number among the 32. -/
def wId (L : grid0.Coords) : Nat := 16 * (L 0).val + (L 1).val

theorem wId_lt (L : grid0.Coords) : wId L < 32 := by
  have h0 : (L 0).val < 2 := (L 0).isLt
  have h1 : (L 1).val < 16 := (L 1).isLt
  unfold wId; omega

/-- The four rows of the flattened operand the tile reads, and its row of the result, as the kernel spells them. -/
abbrev x0 (L : grid0.Coords) : Memref sig .scVector .hbm S32768 .f32 := (xV).slice (Rect.unit (s := S4194304) (k0_off1 L 0#32) S32768.size (k0_off1_inb L 0)) (fun _ => rfl)
abbrev x1 (L : grid0.Coords) : Memref sig .scVector .hbm S32768 .f32 := (xV).slice (Rect.unit (s := S4194304) (k0_off1 L 1#32) S32768.size (k0_off1_inb L 1)) (fun _ => rfl)
abbrev x2 (L : grid0.Coords) : Memref sig .scVector .hbm S32768 .f32 := (xV).slice (Rect.unit (s := S4194304) (k0_off3 L 2#32) S32768.size (k0_off3_inb L 1)) (fun _ => rfl)
abbrev x3 (L : grid0.Coords) : Memref sig .scVector .hbm S32768 .f32 := (xV).slice (Rect.unit (s := S4194304) (k0_off5 L 3#32) S32768.size (k0_off5_inb L 1)) (fun _ => rfl)
abbrev oRow (L : grid0.Coords) : Memref sig .scVector .hbm S16 .i32 := ((oV).slice (Rect.unit (s := S32x16) (k0_off9 L) S1x16.size (k0_off9_inb L)) (fun _ => rfl)).squeeze S16 squeezes_S1x16_S16

theorem off_x0 (L : grid0.Coords) : k0_off1 L 0#32 = ![32768 * (4 * wId L)] := by
  rw [show k0_off1 L 0#32 = k0_off1 L (BitVec.ofNat 32 (0 : Fin 2).val) from rfl, k0_off1_eq L 0]; unfold wId
  exact congrArg (fun n : Nat => ![n]) (by simp; omega)
theorem off_x1 (L : grid0.Coords) : k0_off1 L 1#32 = ![32768 * (4 * wId L + 1)] := by
  rw [show k0_off1 L 1#32 = k0_off1 L (BitVec.ofNat 32 (1 : Fin 2).val) from rfl, k0_off1_eq L 1]; unfold wId
  exact congrArg (fun n : Nat => ![n]) (by simp; omega)
theorem off_x2 (L : grid0.Coords) : k0_off3 L 2#32 = ![32768 * (4 * wId L + 2)] := by
  rw [show k0_off3 L 2#32 = k0_off3 L (BitVec.ofNat 32 (1 + (1 : Fin 2).val)) from rfl, k0_off3_eq L 1]; unfold wId
  exact congrArg (fun n : Nat => ![n]) (by simp; omega)
theorem off_x3 (L : grid0.Coords) : k0_off5 L 3#32 = ![32768 * (4 * wId L + 3)] := by
  rw [show k0_off5 L 3#32 = k0_off5 L (BitVec.ofNat 32 (2 + (1 : Fin 2).val)) from rfl, k0_off5_eq L 1]; unfold wId
  exact congrArg (fun n : Nat => ![n]) (by simp; omega)

/-! ## What one access reads -/

omit [FloatOps F] in
/-- The slice of 32768 elements from `32768 r` on reads row `r`. -/
theorem read_xRow {off : Fin 1 → Nat} (hin : ∀ a, off a + S32768.size a ≤ S4194304.size a) (r : Nat) (hoff : off = ![32768 * r]) (X : Flat.Idx → F .f32) :
    View.read (Elt F) ((xV).slice (Rect.unit (s := S4194304) off S32768.size hin) (fun _ => rfl)).view X = rowAt X r := by
  subst hoff
  funext x
  rw [View.read_apply]
  have hx : (x 0).val < 32768 := (x 0).isLt
  have h0 : 32768 * r + 32768 ≤ 4194304 := hin 0
  show X _ = X _
  congr 1; funext a
  match a with
  | ⟨0, _⟩ => exact Fin.ext (show 32768 * r + 1 * (x 0).val = (32768 * r + (x 0).val) % 4194304 by rw [Nat.mod_eq_of_lt (by omega)]; omega)

omit [FloatOps F] in
/-- A load of sixteen elements from `16 k` on out of a row buffer reads chunk `k`. -/
theorem read_chunkA {off : Fin 1 → Nat} (hin : ∀ a, off a + S16.size a ≤ S32768.size a) (k : Nat) (hoff : off = ![16 * k]) (Y : Row.Idx → F .f32) :
    View.readAt (Elt F) (bA).view (Rect.unit (s := S32768) off S16.size hin).toLoadRect Y = chunk Y k := by
  subst hoff
  funext x
  rw [View.readAt_apply]
  have hx : (x 0).val < 16 := (x 0).isLt
  have h0 : 16 * k + 16 ≤ 32768 := hin 0
  show Y _ = Y _
  congr 1; funext a
  match a with
  | ⟨0, _⟩ => exact Fin.ext (show 16 * k + 1 * (x 0).val = (16 * k + (x 0).val) % 32768 by rw [Nat.mod_eq_of_lt (by omega)]; omega)

omit [FloatOps F] in
/-- The same out of the other row buffer. -/
theorem read_chunkB {off : Fin 1 → Nat} (hin : ∀ a, off a + S16.size a ≤ S32768.size a) (k : Nat) (hoff : off = ![16 * k]) (Y : Row.Idx → F .f32) :
    View.readAt (Elt F) (bB).view (Rect.unit (s := S32768) off S16.size hin).toLoadRect Y = chunk Y k :=
  read_chunkA hin k hoff Y

/-! ## The tile's row of the result -/

theorem off_oRow (L : grid0.Coords) : k0_off9 L = ![wId L, 0] := k0_off9_eq L

/-- Element `x` of the tile's row is element `(w, x)` of the tiles' results. -/
theorem emb_oRow (L : grid0.Coords) (x : L16.Idx) :
    ((oRow L).view.emb x : Tiles.Idx) = fun a => match a with | ⟨0, _⟩ => ⟨wId L, wId_lt L⟩ | ⟨1, _⟩ => ⟨(x 0).val, (x 0).isLt⟩ := by
  have hr : Shape.reshapeEquiv (s' := S16) (s := S1x16) (squeezes_S1x16_S16.numel_eq) x = Fin.cons ⟨0, Nat.one_pos⟩ x :=
    Shape.reshapeEquiv_cons_one (n := 1) (d := ![16]) _ x
  show (Rect.unit (s := S32x16) (k0_off9 L) S1x16.size (k0_off9_inb L)).emb (Shape.reshapeEquiv (s' := S16) (s := S1x16) (squeezes_S1x16_S16.numel_eq) x) = _
  rw [hr]
  have ho := off_oRow L
  funext a
  match a with
  | ⟨0, _⟩ =>
    refine Fin.ext ?_
    show k0_off9 L 0 + 1 * 0 = wId L
    rw [ho]; rfl
  | ⟨1, _⟩ =>
    refine Fin.ext ?_
    show k0_off9 L 1 + 1 * (x 0).val = (x 0).val
    rw [ho]
    show 0 + 1 * (x 0).val = (x 0).val
    omega

/-- The tile's sixteen words written to its row: there the tiles' results are as `allWords` says. -/
theorem written (L : grid0.Coords) (X : Flat.Idx → F .f32) (f : Tiles.Idx → BitVec 32) (w : L16.Idx → BitVec 32)
    (hw : w = tileWords (rowAt X (4 * wId L)) (rowAt X (4 * wId L + 1)) (rowAt X (4 * wId L + 2)) (rowAt X (4 * wId L + 3)))
    (i : Tiles.Idx) (hi : i ∈ (oRow L).view.set) :
    (oRow L).view.writes (Elt F) f [⟨Rect.whole S16, w⟩] i = allWords X i := by
  subst hw
  obtain ⟨x, -, rfl⟩ := Finset.mem_map.mp hi
  have h := View.write_emb_of_mem (v := (oRow L).view.slice (Rect.whole S16)) (Val := Elt F) f
    (tileWords (rowAt X (4 * wId L)) (rowAt X (4 * wId L + 1)) (rowAt X (4 * wId L + 2)) (rowAt X (4 * wId L + 3)))
    (M := Finset.univ) (x := x) (Finset.mem_univ _)
  have he : ((oRow L).view.slice (Rect.whole S16)).emb x = (oRow L).view.emb x := by
    show (oRow L).view.emb ((Rect.whole S16).emb x) = _
    congr 1; exact Rect.emb_whole_apply S16 x
  rw [he] at h
  refine h.trans ?_
  have e := emb_oRow L x
  rw [e]
  show tileWords _ _ _ _ x = tileWords _ _ _ _ _
  congr 1
  funext a; match a with | ⟨0, _⟩ => rfl

/-! ## One exchange through the two small buffers -/

/-- Every number a partner vector names is a lane's. -/
theorem partner_lt (b : BitVec 32) (hb : b = 8#32 ∨ b = 4#32 ∨ b = 2#32 ∨ b = 1#32) :
    ∀ a x, ((![partner b] : Fin 1 → IVec S16 32) a x).toNat < S16.size a := by
  rcases hb with rfl | rfl | rfl | rfl <;> decide +kernel

omit [FloatOps F] in
/-- An indexed load at a partner vector is the gather at it. -/
theorem loadIdx_eq_gather {e : EltTy} (w : Vec F S16 e) (idx : IVec S16 32) (h : ∀ a x, ((![idx] : Fin 1 → IVec S16 32) a x).toNat < S16.size a) :
    (loadIdx w ![idx] h : Vec F S16 e) = gather w idx := by
  funext x
  unfold loadIdx gather idxAt
  congr 1; funext a
  match a with
  | ⟨0, _⟩ => exact Fin.ext (Nat.mod_eq_of_lt (h 0 x)).symm

theorem zero_off : (![0] : Fin 1 → Nat) = fun _ => 0 := by
  funext a; match a with | ⟨0, _⟩ => rfl

omit [FloatOps F] in
/-- A small buffer stored whole holds what was stored. -/
theorem writes_sM (f w : L16.Idx → F .f32) :
    (sM).view.writes (Elt F) f [⟨Rect.unit (s := S16) ![0] S16.size inb_S16_S16_0, w⟩] = w :=
  Memref.write_access_unit_zero_univ (Elt F) cc0_scratch3 zero_off inb_S16_S16_0 f w
omit [FloatOps F] in
theorem writes_sI (f w : L16.Idx → BitVec 32) :
    (sI).view.writes (Elt F) f [⟨Rect.unit (s := S16) ![0] S16.size inb_S16_S16_0, w⟩] = w :=
  Memref.write_access_unit_zero_univ (Elt F) cc0_scratch4 zero_off inb_S16_S16_0 f w
omit [FloatOps F] in
theorem writes_sR (f w : L16.Idx → BitVec 32) :
    (sR).view.writes (Elt F) f [⟨Rect.unit (s := S16) ![0] S16.size inb_S16_S16_0, w⟩] = w :=
  Memref.write_access_unit_zero_univ (Elt F) cc0_scratch2 zero_off inb_S16_S16_0 f w

/-- Once the candidates `p` are stored, the two indexed loads at an index vector read the partners' candidates. -/
theorem wp_pair (d : Dev nD) (L : grid0.Coords) {α : Type} {Q : α → sProp 𝕄} (p : Vec F L16 .f32 × Vec F L16 .i32) (idx : IVec S16 32)
    {h₁ h₂ : ∀ a x, ((![idx] : Fin 1 → IVec S16 32) a x).toNat < S16.size a} {l₁ : (sM).view.Loads} {l₂ : (sI).view.Loads}
    {fM : L16.Idx → F .f32} {fI : L16.Idx → BitVec 32}
    {kk : Vec F S16 .f32 → Vec F S16 .i32 → Prog (TpuEff nD τ sig (Elt F) Λ₀ (thr d L).2) α} :
    ((sM).view.loc (thr d L) ↦{fullShare} (sM).view.writes (Elt F) fM [⟨Rect.unit (s := S16) ![0] S16.size inb_S16_S16_0, p.1⟩])
      ⊢ iprop(((sI).view.loc (thr d L) ↦{fullShare} (sI).view.writes (Elt F) fI [⟨Rect.unit (s := S16) ![0] S16.size inb_S16_S16_0, p.2⟩])
        -∗ (((sM).view.loc (thr d L) ↦{fullShare} p.1) -∗ ((sI).view.loc (thr d L) ↦{fullShare} p.2)
          -∗ wp frame (wpE (defs₀ (F := F)) 𝒱₀ (thr d L) none) Set.univ (kk (gather p.1 idx) (gather p.2 idx)) Q)
        -∗ wp frame (wpE (defs₀ (F := F)) 𝒱₀ (thr d L) none) Set.univ
            (SparseCore.vectorLoadIdx sM ![idx] h₁ l₁ >>= fun v => SparseCore.vectorLoadIdx sI ![idx] h₂ l₂ >>= fun ix => kk v ix) Q) := by
  rw [writes_sM, writes_sI]
  iintro HM HI Hk
  iapply (SparseCore.wp_vectorLoadIdx 𝒱₀ (thr d L) none Set.univ (base := sM) (S := Finset.univ) (q := fullShare) (f := p.1) (Finset.subset_univ _)) $$ HM
  iintro HM
  iapply (SparseCore.wp_vectorLoadIdx 𝒱₀ (thr d L) none Set.univ (base := sI) (S := Finset.univ) (q := fullShare) (f := p.2) (Finset.subset_univ _)) $$ HI
  iintro HI
  have hM : View.read (Elt F) ((sM).access (Rect.whole S16)) p.1 = p.1 := Memref.read_access_whole (Elt F) cc0_scratch3 p.1
  have hI : View.read (Elt F) ((sI).access (Rect.whole S16)) p.2 = p.2 := Memref.read_access_whole (Elt F) cc0_scratch4 p.2
  rw [loadIdx_eq_gather, loadIdx_eq_gather, hM, hI]
  iapply Hk $$ HM HI

end Tile

end Cert.Proof.KernelIdeal

end
-- ==== Proof.IdealTile.lean ====
/-
  One tile's run of the kernel: from its four rows of the flattened operand and its row of the result, through the two
  row buffers, the four scans, the sixteen exchanges and the write-out, to its row of the result at its sixteen words.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Scan
public import proofs.«01_k».proof.Proof.IdealBase

@[expose] public section

noncomputable section

namespace Cert.Proof.KernelIdeal

open Cert.KernelIdeal Cert.KernelIdeal.Gen Cert.Proof.Argmax

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords) (X : Flat.Idx → F .f32)

theorem trips : Scf.trips k0_t1_loop.lb k0_t1_loop.ub k0_t1_loop.st = 2048 := by decide +kernel

/-- A row buffer at the operand's row `r`, and the lanes' state after `k` chunks of it. -/
abbrev scanA (r : Nat) (k : Nat) (acc : FVec F L16 .f32 × IVec L16 32) : sProp 𝕄 :=
  iprop(⌜acc = scan (rowAt X r) k⌝ ∗ ((bA).view.loc (thr d L) ↦{fullShare} rowAt X r))
abbrev scanB (r : Nat) (k : Nat) (acc : FVec F L16 .f32 × IVec L16 32) : sProp 𝕄 :=
  iprop(⌜acc = scan (rowAt X r) k⌝ ∗ ((bB).view.loc (thr d L) ↦{fullShare} rowAt X r))

omit [FloatOps F] in
/-- A row fetched into a row buffer is what the buffer holds. -/
theorem fetched (b : Ref sig .scVector) (f w w' : b.ty.Contents (Elt F)) (hw : w = w') :
    ((Memref.whole b : Memref sig _ _ _ _).view.loc (thr d L) ↦{fullShare} View.write (Elt F) (Memref.whole b : Memref sig _ _ _ _).view f w Finset.univ : sProp 𝕄)
      ⊢ iprop((Memref.whole b : Memref sig _ _ _ _).view.loc (thr d L) ↦{fullShare} w') := by
  subst hw
  exact Entails.of_eq (congrArg _ (View.write_whole_univ b f w))

theorem tile_run (O : CellTallies nD τ sig (HIx 1)) (W : Waits sig (HIx 1)) (fO : Buf (Elt F) (oLoc d))
   (fA fB : Row.Idx → F .f32) (fR : L16.Idx → BitVec 32) (fM : L16.Idx → F .f32) (fI : L16.Idx → BitVec 32) :
    iprop(Transfers.MayWaits (thr d L) (default : HIx 1) O
        ∗ ((x0 L).view.loc (thr d L) ↦[(x0 L).view.set]{fullShare} X)
        ∗ ((x1 L).view.loc (thr d L) ↦[(x1 L).view.set]{fullShare} X)
        ∗ ((x2 L).view.loc (thr d L) ↦[(x2 L).view.set]{fullShare} X)
        ∗ ((x3 L).view.loc (thr d L) ↦[(x3 L).view.set]{fullShare} X)
        ∗ ((oRow L).view.loc (thr d L) ↦[(oRow L).view.set]{fullShare} fO)
        ∗ ((bA).view.loc (thr d L) ↦{fullShare} fA)
        ∗ ((bB).view.loc (thr d L) ↦{fullShare} fB)
        ∗ ((sR).view.loc (thr d L) ↦{fullShare} fR)
        ∗ ((sM).view.loc (thr d L) ↦{fullShare} fM)
        ∗ ((sI).view.loc (thr d L) ↦{fullShare} fI)
        ∗ semVal (thr d L, .dma cc0_scratch5.sem) 0 ∗ semVal (thr d L, .dma cc0_scratch6.sem) 0 ∗ semVal (thr d L, .dma cc0_scoped0.sem) 0
        ∗ owes (thr d L) O W)
      ⊢ wp frame (wpE (defs₀ (F := F)) 𝒱₀ (thr d L) none) Set.univ
          (cc0__argmax_body L xV (Memref.isWhole_whole _) oV (Memref.isWhole_whole _) bA (Memref.isWhole_whole _) bB (Memref.isWhole_whole _)
            sR (Memref.isWhole_whole _) sM (Memref.isWhole_whole _) sI (Memref.isWhole_whole _) cc0_scratch5 cc0_scratch6 cc0_scoped0)
          fun _ => iprop(((x0 L).view.loc (thr d L) ↦[(x0 L).view.set]{fullShare} X)
            ∗ ((x1 L).view.loc (thr d L) ↦[(x1 L).view.set]{fullShare} X)
            ∗ ((x2 L).view.loc (thr d L) ↦[(x2 L).view.set]{fullShare} X)
            ∗ ((x3 L).view.loc (thr d L) ↦[(x3 L).view.set]{fullShare} X)
            ∗ ((oRow L).view.loc (thr d L) ↦[(oRow L).view.set]{fullShare} allWords X)
            ∗ (∃ f, (bA).view.loc (thr d L) ↦{fullShare} f)
            ∗ (∃ f, (bB).view.loc (thr d L) ↦{fullShare} f)
            ∗ (∃ f, (sR).view.loc (thr d L) ↦{fullShare} f)
            ∗ (∃ f, (sM).view.loc (thr d L) ↦{fullShare} f)
            ∗ (∃ f, (sI).view.loc (thr d L) ↦{fullShare} f)
            ∗ semVal (thr d L, .dma cc0_scratch5.sem) 0 ∗ semVal (thr d L, .dma cc0_scratch6.sem) 0 ∗ semVal (thr d L, .dma cc0_scoped0.sem) 0
            ∗ ∃ W', ⌜∀ p ∈ W', p ∈ W ∨ p.2 = none ∨ p.2 = some (0 : Fin 1)⌝ ∗ owes (thr d L) O W' : sProp 𝕄) := by
  iintro ⟨#Hmw, H0, H1, H2, H3, Ho, HA, HB, HR, HM, HI, HsA, HsB, HsO, HO⟩
  sl_unfold [cc0__argmax_body]
  sl_exec (disch := exact View.amount_pos _ _ (show 0 < S32768.numel by decide))
  -- row 0
  ihave HA := (fetched d L cc0_scratch0 fA (tile_run.sl.dma0 L X) (rowAt X (4 * wId L)) (read_xRow _ _ (off_x0 L) X)) $$ HA
  sl_for (scanA d L X (4 * wId L)) $$ [HA]
  case region =>
    intro k acc
    iintro ⟨%hacc, HA⟩
    sl_exec
    sl_step
    isplitr
    · ipureintro
      rw [read_chunkA _ _ (k0_off2_eq k), hacc]; exact (scan_succ _ _).symm
    · iexact HA
  · isplitr
    · ipureintro; exact (scan_zero _).symm
    · iexact HA
  iintro %acc ⟨%hacc, HA⟩
  rw [trips] at hacc
  subst hacc
  sl_exec
  iapply (wp_pair d L (found (rowAt X (4 * wId L))) (partner 8#32)) $$ [HM] [HI]
  · iexact HM
  · iexact HI
  iintro HM HI
  sl_exec
  iapply (wp_pair d L (exchange 8#32 (found (rowAt X (4 * wId L)))) (partner 4#32)) $$ [HM] [HI]
  · iexact HM
  · iexact HI
  iintro HM HI
  sl_exec
  iapply (wp_pair d L (exchange 4#32 (exchange 8#32 (found (rowAt X (4 * wId L))))) (partner 2#32)) $$ [HM] [HI]
  · iexact HM
  · iexact HI
  iintro HM HI
  sl_exec
  iapply (wp_pair d L (exchange 2#32 (exchange 4#32 (exchange 8#32 (found (rowAt X (4 * wId L)))))) (partner 1#32)) $$ [HM] [HI]
  · iexact HM
  · iexact HI
  iintro HM HI
  sl_exec (disch := exact View.amount_pos _ _ (show 0 < S32768.numel by decide))
  -- row 1
  ihave HB := (fetched d L cc0_scratch1 fB (tile_run.sl.dma0_1 L X) (rowAt X (4 * wId L + 1)) (read_xRow _ _ (off_x1 L) X)) $$ HB
  sl_for (scanB d L X (4 * wId L + 1)) $$ [HB]
  case region =>
    intro k acc
    iintro ⟨%hacc, HB⟩
    sl_exec
    sl_step
    isplitr
    · ipureintro
      rw [read_chunkB _ _ (k0_off4_eq k), hacc]; exact (scan_succ _ _).symm
    · iexact HB
  · isplitr
    · ipureintro; exact (scan_zero _).symm
    · iexact HB
  iintro %acc ⟨%hacc, HB⟩
  rw [trips] at hacc
  subst hacc
  sl_exec
  iapply (wp_pair d L (found (rowAt X (4 * wId L + 1))) (partner 8#32)) $$ [HM] [HI]
  · iexact HM
  · iexact HI
  iintro HM HI
  sl_exec
  iapply (wp_pair d L (exchange 8#32 (found (rowAt X (4 * wId L + 1)))) (partner 4#32)) $$ [HM] [HI]
  · iexact HM
  · iexact HI
  iintro HM HI
  sl_exec
  iapply (wp_pair d L (exchange 4#32 (exchange 8#32 (found (rowAt X (4 * wId L + 1))))) (partner 2#32)) $$ [HM] [HI]
  · iexact HM
  · iexact HI
  iintro HM HI
  sl_exec
  iapply (wp_pair d L (exchange 2#32 (exchange 4#32 (exchange 8#32 (found (rowAt X (4 * wId L + 1)))))) (partner 1#32)) $$ [HM] [HI]
  · iexact HM
  · iexact HI
  iintro HM HI
  sl_exec (disch := exact View.amount_pos _ _ (show 0 < S32768.numel by decide))
  -- row 2
  ihave HA := (fetched d L cc0_scratch0 (rowAt X (4 * wId L)) (tile_run.sl.dma0_2 L X) (rowAt X (4 * wId L + 2)) (read_xRow _ _ (off_x2 L) X)) $$ HA
  sl_for (scanA d L X (4 * wId L + 2)) $$ [HA]
  case region =>
    intro k acc
    iintro ⟨%hacc, HA⟩
    sl_exec
    sl_step
    isplitr
    · ipureintro
      rw [read_chunkA _ _ (k0_off6_eq k), hacc]; exact (scan_succ _ _).symm
    · iexact HA
  · isplitr
    · ipureintro; exact (scan_zero _).symm
    · iexact HA
  iintro %acc ⟨%hacc, HA⟩
  rw [trips] at hacc
  subst hacc
  sl_exec
  iapply (wp_pair d L (found (rowAt X (4 * wId L + 2))) (partner 8#32)) $$ [HM] [HI]
  · iexact HM
  · iexact HI
  iintro HM HI
  sl_exec
  iapply (wp_pair d L (exchange 8#32 (found (rowAt X (4 * wId L + 2)))) (partner 4#32)) $$ [HM] [HI]
  · iexact HM
  · iexact HI
  iintro HM HI
  sl_exec
  iapply (wp_pair d L (exchange 4#32 (exchange 8#32 (found (rowAt X (4 * wId L + 2))))) (partner 2#32)) $$ [HM] [HI]
  · iexact HM
  · iexact HI
  iintro HM HI
  sl_exec
  iapply (wp_pair d L (exchange 2#32 (exchange 4#32 (exchange 8#32 (found (rowAt X (4 * wId L + 2)))))) (partner 1#32)) $$ [HM] [HI]
  · iexact HM
  · iexact HI
  iintro HM HI
  sl_exec (disch := exact View.amount_pos _ _ (show 0 < S32768.numel by decide))
  -- row 3
  ihave HB := (fetched d L cc0_scratch1 (rowAt X (4 * wId L + 1)) (tile_run.sl.dma0_3 L X) (rowAt X (4 * wId L + 3)) (read_xRow _ _ (off_x3 L) X)) $$ HB
  sl_for (scanB d L X (4 * wId L + 3)) $$ [HB]
  case region =>
    intro k acc
    iintro ⟨%hacc, HB⟩
    sl_exec
    sl_step
    isplitr
    · ipureintro
      rw [read_chunkB _ _ (k0_off8_eq k), hacc]; exact (scan_succ _ _).symm
    · iexact HB
  · isplitr
    · ipureintro; exact (scan_zero _).symm
    · iexact HB
  iintro %acc ⟨%hacc, HB⟩
  rw [trips] at hacc
  subst hacc
  sl_exec
  iapply (wp_pair d L (found (rowAt X (4 * wId L + 3))) (partner 8#32)) $$ [HM] [HI]
  · iexact HM
  · iexact HI
  iintro HM HI
  sl_exec
  iapply (wp_pair d L (exchange 8#32 (found (rowAt X (4 * wId L + 3)))) (partner 4#32)) $$ [HM] [HI]
  · iexact HM
  · iexact HI
  iintro HM HI
  sl_exec
  iapply (wp_pair d L (exchange 4#32 (exchange 8#32 (found (rowAt X (4 * wId L + 3))))) (partner 2#32)) $$ [HM] [HI]
  · iexact HM
  · iexact HI
  iintro HM HI
  sl_exec
  iapply (wp_pair d L (exchange 2#32 (exchange 4#32 (exchange 8#32 (found (rowAt X (4 * wId L + 3)))))) (partner 1#32)) $$ [HM] [HI]
  · iexact HM
  · iexact HI
  iintro HM HI
  sl_exec (disch := exact View.amount_pos _ _ (show 0 < S32768.numel by decide))
  -- the four answers are written out
  have hw : tile_run.sl.dma2 L X fR = tileWords (rowAt X (4 * wId L)) (rowAt X (4 * wId L + 1)) (rowAt X (4 * wId L + 2)) (rowAt X (4 * wId L + 3)) :=
by
    unfold tile_run.sl.dma2
    have e : ∀ v : L16.Idx → BitVec 32, View.read (Elt F) (sR).view ((sR).view.writes (Elt F) fR [⟨Rect.unit (s := S16) ![0] S16.size inb_S16_S16_0, v⟩]) = v := fun v => writes_sR (F := F) fR v
    refine (e _).trans ?_
    rfl
  sl_step
  isplitl [H0]; · iexact H0
  isplitl [H1]; · iexact H1
  isplitl [H2]; · iexact H2
  isplitl [H3]; · iexact H3
  isplitl [Ho]
  · iapply (Entails.of_eq (pointsTo_congr (q := fullShare) (written L X fO _ hw)))
    iexact Ho
  isplitl [HA]; · iexists _; iexact HA
  isplitl [HB]; · iexists _; iexact HB
  isplitl [HR]; · iexists _; iexact HR
  isplitl [HM]; · iexists _; iexact HM
  isplitl [HI]; · iexists _; iexact HI
  isplitl [HsA]; · iexact HsA
  isplitl [HsB]; · iexact HsB
  isplitl [HsO]; · iexact HsO
  iexists _; isplitr
  swap
  · iexact HO
  · ipureintro
    intro p _
    rcases p.2 with _ | q
    · exact .inr (.inl rfl)
    · exact .inr (.inr (congrArg some (Subsingleton.elim q 0)))

end Tile

end Cert.Proof.KernelIdeal

end
-- ==== Proof.IdealLaunch.lean ====
/-
  The launch: the operand flattened, the two SparseCores' 32 tiles run on their rows, the first four columns of what they
  leave taken and flattened. The run of the whole program, the result's value with it.
-/
module

public import proofs.«01_k».proof.Defs
public import Idealize.ShloMosaic.Lib.SparseCore.Quiescent
public import Idealize.ShloMosaic.Lib.StableHlo.Run
public import Idealize.ShloMosaic.Lib.StableHlo.RunHlo
public import Idealize.ShloMosaic.Lib.Pipeline.Kit
public import Idealize.ShloMosaic.Lib.Tactic
public import Idealize.ShloMosaic.Lib.Ring.AtN
public import proofs.«01_k».proof.Proof.Gen.KernelIdeal
public import proofs.«01_k».proof.Proof.Gen.KernelIdeal.Skeleton
public import proofs.«01_k».proof.Proof.Scan
public import proofs.«01_k».proof.Proof.IdealBase
public import proofs.«01_k».proof.Proof.IdealTile

@[expose] public section

noncomputable section

namespace Cert.Proof.KernelIdeal

open Cert.KernelIdeal Cert.KernelIdeal.Gen Cert.Proof.Argmax

open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the program computes -/

/-- The operand flattened. -/
def flat (d : Dev nD) : Flat.Idx → F .f32 := shapeCast Flat (m (aLoc d)) shapeCasts_S128x32768_S4194304

variable [FloatOps F]

/-- The first four columns of the tiles' words. -/
def cols (X : Flat.Idx → F .f32) : Vec F S32x4 .i32 := extractStridedSlice S32x4 ![0, 0] (allWords X) slices_S32x16_S32x4_0_0

/-- The program's result: those columns flattened. -/
def result (d : Dev nD) : Vec F S128 .i32 := shapeCast S128 (cols (flat m d)) shapeCasts_S32x4_S128

/-! ## One tile's pieces of the arrays -/

/-- The tile's four rows of the flattened operand. -/
abbrev xPieces (d : Dev nD) (L : grid0.Coords) (X : Flat.Idx → F .f32) : sProp 𝕄 :=
  iprop((xLoc d ↦[(x0 L).view.set]{fullShare} X) ∗ (xLoc d ↦[(x1 L).view.set]{fullShare} X)
    ∗ (xLoc d ↦[(x2 L).view.set]{fullShare} X) ∗ (xLoc d ↦[(x3 L).view.set]{fullShare} X))

/-- The tile's row of the tiles' words. -/
abbrev oPiece (d : Dev nD) (L : grid0.Coords) (f : Buf (Elt F) (oLoc d)) : sProp 𝕄 := oLoc d ↦[(oRow L).view.set]{fullShare} f

/-- The tile at a pair of SparseCore and vector subcore. -/
def coordsV (c : Fin (grid0.bound 0)) (s : Fin (grid0.bound 1)) : grid0.Coords :=
  fun | 0 => c | 1 => s | ⟨_ + 2, h⟩ => absurd h (Nat.not_lt.2 (Nat.le_add_left _ _))

theorem wId_coordsV (c : Fin (grid0.bound 0)) (s : Fin (grid0.bound 1)) : wId (coordsV c s) = 16 * c.val + s.val := rfl

/-! ## What the handshakes carry -/

/-- What a tile is handed: its rows of the flattened operand, its row of the words at whatever it held; and what it hands
    back: the same rows, and its row of the words written. -/
abbrev goPts (d : Dev nD) (L : grid0.Coords) : sProp 𝕄 := iprop(xPieces d L (flat m d) ∗ oPiece d L (m (oLoc d)))
abbrev tdPts (d : Dev nD) (L : grid0.Coords) : sProp 𝕄 := iprop(xPieces d L (flat m d) ∗ oPiece d L (allWords (flat m d)))

/-- The one call hands SparseCore `c` its sixteen tiles' pieces, each tile its own. -/
def P : (K (F := F)).Pay (nD := nD) (Val := Elt F) (Name := ℕ) (U := UU) where
  st := fun q d c => match q with | 0 => bigSep Finset.univ fun i : Fin (grid0.bound 1) => goPts m d (coordsV c i)
  dn := fun q d c => match q with | 0 => bigSep Finset.univ fun i : Fin (grid0.bound 1) => tdPts m d (coordsV c i)
  go := fun q d c i => match q with | 0 => goPts m d (coordsV c i)
  td := fun q d c i => match q with | 0 => tdPts m d (coordsV c i)
  x := fun _ _ => iprop(emp)

instance P_storable : (P (F := F) m).IsStorable where
  st q d c := match q with
    | 0 => (inferInstance : BI.Storable (upEmb : UEmb _ 𝕄) (bigSep Finset.univ fun i : Fin (grid0.bound 1) => goPts m d (coordsV c i)))
  dn q d c := match q with
    | 0 => (inferInstance : BI.Storable (upEmb : UEmb _ 𝕄) (bigSep Finset.univ fun i : Fin (grid0.bound 1) => tdPts m d (coordsV c i)))
  go q d c i := match q with
    | 0 => (inferInstance : BI.Storable (upEmb : UEmb _ 𝕄) (goPts m d (coordsV c i)))
  td q d c i := match q with
    | 0 => (inferInstance : BI.Storable (upEmb : UEmb _ 𝕄) (tdPts m d (coordsV c i)))

/-! ## The task -/

section Tile

variable (d : Dev nD) (L : grid0.Coords)

/-- The tile's three transfer semaphores: the two row buffers' and the write-out's. -/
abbrev cellA (d : Dev nD) (L : grid0.Coords) : GSem nD τ sig := (thr d L, .dma cc0_scratch5.sem)
abbrev cellB (d : Dev nD) (L : grid0.Coords) : GSem nD τ sig := (thr d L, .dma cc0_scratch6.sem)
abbrev cellO (d : Dev nD) (L : grid0.Coords) : GSem nD τ sig := (thr d L, .dma cc0_scoped0.sem)

omit [FloatOps F] in
theorem ownSems0_V :
    (ownSems0 (thr d L) : sProp 𝕄)
      = iprop(semVal (cellA d L) 0 ∗ semVal (cellB d L) 0 ∗ semVal (cellO d L) 0
          ∗ bigSep ((((ownCells (thr d L)).erase (cellA d L)).erase (cellB d L)).erase (cellO d L)) fun g => semVal g 0) := by
  unfold SparseCore.Cfg.ownSems0
  rw [SparseCore.bigSep_erase' ((mem_ownCells (g := cellA d L)).mpr ⟨rfl, by
      show (SemLoc.dma cc0_scratch5.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scratch6.sem : SemLoc sig).isScoped .scVector = true; decide⟩⟩),
    SparseCore.bigSep_erase' (Finset.mem_erase.mpr ⟨by simp [cellB, cellO]; decide, Finset.mem_erase.mpr ⟨by simp [cellA, cellO]; decide,
      (mem_ownCells (g := cellO d L)).mpr ⟨rfl, by show (SemLoc.dma cc0_scoped0.sem : SemLoc sig).isScoped .scVector = true; decide⟩⟩⟩)]

/-- A buffer of the tile's own, as the device's. -/
abbrev own (L : grid0.Coords) (b : Ref sig .scVector) : DevRef τ sig := (Proc.scVector (cV L) (jV L)).devRef b
omit [FloatOps F] in
theorem own_ne {b b' : Ref sig .scVector} (h : b ≠ b') : own L b ≠ own L b' := fun e => absurd (Proc.devRef_injective _ e) h

omit [FloatOps F] in
/-- The subcore's own buffers: the two row buffers and the three small ones, each at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase (own L cc0_scratch0)).erase (own L cc0_scratch1)).erase
              (own L cc0_scratch2)).erase (own L cc0_scratch3)).erase (own L cc0_scratch4))
              fun b => iprop(∃ f, ((d, b) : Loc nD τ sig) ↦{fullShare} f)) := by
  unfold SparseCore.Cfg.ownBufs
  have ne : ∀ {b b' : Ref sig .scVector}, b ≠ b' → own L b ≠ own L b' := own_ne L
  have own0 := SparseCore.Cfg.mem_ownRefs_of_owner (p := Proc.scVector (cV L) (jV L)) (b := own L cc0_scratch0) rfl
  have own1 := SparseCore.Cfg.mem_ownRefs_of_owner (p := Proc.scVector (cV L) (jV L)) (b := own L cc0_scratch1) rfl
  have own2 := SparseCore.Cfg.mem_ownRefs_of_owner (p := Proc.scVector (cV L) (jV L)) (b := own L cc0_scratch2) rfl
  have own3 := SparseCore.Cfg.mem_ownRefs_of_owner (p := Proc.scVector (cV L) (jV L)) (b := own L cc0_scratch3) rfl
  have own4 := SparseCore.Cfg.mem_ownRefs_of_owner (p := Proc.scVector (cV L) (jV L)) (b := own L cc0_scratch4) rfl
  have h1 := Finset.mem_erase.mpr ⟨ne (show (cc0_scratch1 : Ref sig .scVector) ≠ cc0_scratch0 by decide), own1⟩
  have h2 := Finset.mem_erase.mpr ⟨ne (show (cc0_scratch2 : Ref sig .scVector) ≠ cc0_scratch1 by decide),
    Finset.mem_erase.mpr ⟨ne (show (cc0_scratch2 : Ref sig .scVector) ≠ cc0_scratch0 by decide), own2⟩⟩
  have h3 := Finset.mem_erase.mpr ⟨ne (show (cc0_scratch3 : Ref sig .scVector) ≠ cc0_scratch2 by decide),
    Finset.mem_erase.mpr ⟨ne (show (cc0_scratch3 : Ref sig .scVector) ≠ cc0_scratch1 by decide),
      Finset.mem_erase.mpr ⟨ne (show (cc0_scratch3 : Ref sig .scVector) ≠ cc0_scratch0 by decide), own3⟩⟩⟩
  have h4 := Finset.mem_erase.mpr ⟨ne (show (cc0_scratch4 : Ref sig .scVector) ≠ cc0_scratch3 by decide),
    Finset.mem_erase.mpr ⟨ne (show (cc0_scratch4 : Ref sig .scVector) ≠ cc0_scratch2 by decide),
      Finset.mem_erase.mpr ⟨ne (show (cc0_scratch4 : Ref sig .scVector) ≠ cc0_scratch1 by decide),
        Finset.mem_erase.mpr ⟨ne (show (cc0_scratch4 : Ref sig .scVector) ≠ cc0_scratch0 by decide), own4⟩⟩⟩⟩
  refine (SparseCore.bigSep_erase' own0).trans ?_
  rw [SparseCore.bigSep_erase' h1, SparseCore.bigSep_erase' h2, SparseCore.bigSep_erase' h3, SparseCore.bigSep_erase' h4]

/-- The task, from what the handshake brings the tile to what it takes back: the tile's run, between the tile's own buffers
    and semaphores as the launch names them. -/
theorem tile_body (hF : (K (F := F)).Facts) (O : CellTallies nD τ sig (HIx 1)) (W : Waits sig (HIx 1)) (hO : ∀ g, O g none = 0) :
    iprop(levAts (K (F := F)).L (K (F := F)).lev ∗ emp ∗ goPts m d L
        ∗ scopedBufs (thr d L) ∗ scopedSems0 (thr d L) ∗ owes (thr d L) O W)
      ⊢ wp frame (wpE (defs₀ (F := F)) 𝒱₀ (thr d L) none) Set.univ
          (cc0__argmax_body L xV (Memref.isWhole_whole _) oV (Memref.isWhole_whole _) bA (Memref.isWhole_whole _) bB (Memref.isWhole_whole _)
            sR (Memref.isWhole_whole _) sM (Memref.isWhole_whole _) sI (Memref.isWhole_whole _) cc0_scratch5 cc0_scratch6 cc0_scoped0)
          fun _ => iprop(tdPts m d L ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨⟨H0, H1, H2, H3⟩, Ho⟩, ⟨⟨%fA, HA⟩, ⟨%fB, HB⟩, ⟨%fR, HR⟩, ⟨%fM, HM⟩, ⟨%fI, HI⟩, Hbufs⟩, ⟨HsA, HsB, HsO, Hsems⟩, HO⟩
  ihave Hmw := (show levAts (K (F := F)).L (K (F := F)).lev ⊢ Transfers.MayWaits (thr d L) (default : HIx 1) O from
    (K (F := F)).mayWaits_none (thr := thr d L) hO) $$ Hlv
  ihave Hrun := (tile_run d L (flat m d) O W (m (oLoc d)) fA fB fR fM fI) $$ [H0 H1 H2 H3 Ho HA HB HR HM HI HsA HsB HsO HO]
  · isplitr; · iexact Hmw
    isplitl [H0]; · iexact H0
    isplitl [H1]; · iexact H1
    isplitl [H2]; · iexact H2
    isplitl [H3]; · iexact H3
    isplitl [Ho]; · iexact Ho
    isplitl [HA]; · iexact HA
    isplitl [HB]; · iexact HB
    isplitl [HR]; · iexact HR
    isplitl [HM]; · iexact HM
    isplitl [HI]; · iexact HI
    isplitl [HsA]; · iexact HsA
    isplitl [HsB]; · iexact HsB
    isplitl [HsO]; · iexact HsO
    iexact HO
  iapply (wp_wand frame _ _) $$ [Hrun]
  · iexact Hrun
  iintro %_ ⟨H0, H1, H2, H3, Ho, HA, HB, HR, HM, HI, HsA, HsB, HsO, HW⟩
  isplitl [H0 H1 H2 H3 Ho]
  · isplitl [H0 H1 H2 H3]
    · isplitl [H0]; · iexact H0
      isplitl [H1]; · iexact H1
      isplitl [H2]; · iexact H2
      iexact H3
    iexact Ho
  isplitl [HA HB HR HM HI Hbufs]
  · isplitl [HA]; · iexact HA
    isplitl [HB]; · iexact HB
    isplitl [HR]; · iexact HR
    isplitl [HM]; · iexact HM
    isplitl [HI]; · iexact HI
    iexact Hbufs
  isplitl [HsA HsB HsO Hsems]
  · isplitl [HsA]; · iexact HsA
    isplitl [HsB]; · iexact HsB
    isplitl [HsO]; · iexact HsO
    iexact Hsems
  iexact HW

/-! ## The obligation -/

theorem defs₀_vector (c : Fin τ.nSC) (s : Fin τ.nSub) :
    defs₀ (F := F) (.scVector c s) 0 ()
      = SparseCore.onTile hcore0 hsub0 (fun c s => cc0__argmax_body (coordsV c s)
          xV (Memref.isWhole_whole _) oV (Memref.isWhole_whole _) bA (Memref.isWhole_whole _) bB (Memref.isWhole_whole _)
          sR (Memref.isWhole_whole _) sM (Memref.isWhole_whole _) sI (Memref.isWhole_whole _) cc0_scratch5 cc0_scratch6 cc0_scoped0) ⟨⟩ c s := rfl

theorem tileObl (hF : (K (F := F)).Facts) : (K (F := F)).TileObl (D (F := F)) 𝒱 (P m) v₀ 0 := by
  intro d c i O W hO _ _
  -- the tiles owe nothing beyond the handshake
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

/-- A SparseCore's pieces are its tiles' pieces, one for each. -/
theorem vecSplit : (K (F := F)).VecSplit' (P m) 0 := by
  intro d c
  show (bigSep Finset.univ fun i : Fin (grid0.bound 1) => goPts m d (coordsV c i)) ⊢ |={Set.univ}=> iprop(
      (bigSep Finset.univ fun i : Fin (grid0.bound 1) => goPts m d (coordsV c i))
      ∗ ((bigSep Finset.univ fun i : Fin (grid0.bound 1) => tdPts m d (coordsV c i))
          -∗ bigSep Finset.univ fun i : Fin (grid0.bound 1) => tdPts m d (coordsV c i)))
  iintro H; imodintro
  isplitl [H]; · iexact H
  iintro H; iexact H

end Tile

/-! ## The rows split and join -/

/-- A pair of SparseCore and tile. -/
abbrev Pair : Type := Fin (grid0.bound 0) × Fin (grid0.bound 1)

theorem wId_inj {p q : Pair} (h : 16 * p.1.val + p.2.val = 16 * q.1.val + q.2.val) : p = q := by
  have h1 : p.2.val < 16 := p.2.isLt
  have h2 : q.2.val < 16 := q.2.isLt
  exact Prod.ext (Fin.ext (by omega)) (Fin.ext (by omega))

/-- The tile that a number below 32 names. -/
def pairOf (w : Nat) (h : w < 32) : Pair :=
  (⟨w / 16, by show w / 16 < 2; omega⟩, ⟨w % 16, by show w % 16 < 16; omega⟩)

theorem hdivX : 128 ∣ S4194304.size 0 := ⟨32768, rfl⟩
theorem hdivO : 32 ∣ S32x16.size 0 := ⟨1, rfl⟩
/-- Row `i` of the flattened operand, and row `i` of the tiles' words. -/
abbrev xPart (i : Fin 128) : Rect S4194304 := Rect.part (s := S4194304) (a₀ := 0) hdivX i
abbrev oPart (i : Fin 32) : Rect S32x16 := Rect.part (s := S32x16) (a₀ := 0) hdivO i

/-- A slice of 32768 elements from a row's start on is that row. -/
theorem xRect_eq {off : Fin 1 → Nat} (hin : ∀ a, off a + S32768.size a ≤ S4194304.size a) (r : Nat) (hr : r < 128) (hoff : off = ![32768 * r]) :
    ((xV).slice (Rect.unit (s := S4194304) off S32768.size hin) (fun _ => rfl)).view.set = (xPart ⟨r, hr⟩).set := by
  subst hoff
  have e : Rect.unit (s := S4194304) ![32768 * r] S32768.size hin = xPart ⟨r, hr⟩ := by
    unfold xPart Rect.part Rect.block
    congr 1 <;> funext a
    · match a with | 0 => simp [Shape.partIx, Shape.partSize]; omega
    · match a with | 0 => simp [Shape.partSize]
  show ((View.whole (main_v0_scv : Ref sig .scVector)).slice (Rect.unit (s := S4194304) ![32768 * r] S32768.size hin)).set = _
  rw [View.set_slice, e]; exact Finset.map_refl

/-- A slice of the tiles' words covers the rectangle it is taken at. -/
theorem oSlice_set {R R' : Rect S32x16} (h : R = R') : ((View.whole (main_v1_scv : Ref sig .scVector)).slice R).set = R'.set := by
  subst h
  rw [View.set_slice]; exact Finset.map_refl

/-- The tile's row of the words is row `w`. -/
theorem oRow_set (L : grid0.Coords) : (oRow L).view.set = (oPart ⟨wId L, wId_lt L⟩).set := by
  have e : Rect.unit (s := S32x16) (k0_off9 L) S1x16.size (k0_off9_inb L) = oPart ⟨wId L, wId_lt L⟩ := by
    unfold oPart Rect.part Rect.block
    congr 1 <;> funext a
    · rw [off_oRow]
      match a with
      | 0 => simp [Shape.partIx, Shape.partSize]
      | 1 => simp [Shape.partIx, Shape.partSize]
    · match a with
      | 0 => simp [Shape.partSize]
      | 1 => simp [Shape.partSize]
  show (((View.whole (main_v1_scv : Ref sig .scVector)).slice (Rect.unit (s := S32x16) (k0_off9 L) S1x16.size (k0_off9_inb L))).reshape S16
    squeezes_S1x16_S16.numel_eq).set = _
  rw [View.set_reshape]
  exact oSlice_set e

/-- The row of the flattened operand a pair and a number below 4 name. -/
def xIx (p : Pair × Fin 4) : Fin 128 :=
  ⟨4 * (16 * p.1.1.val + p.1.2.val) + p.2.val, by
    have h0 : p.1.1.val < 2 := p.1.1.isLt
    have h1 : p.1.2.val < 16 := p.1.2.isLt
    have h2 := p.2.isLt
    omega⟩
def oIx (p : Pair) : Fin 32 :=
  ⟨16 * p.1.val + p.2.val, by
    have h0 : p.1.val < 2 := p.1.isLt
    have h1 : p.2.val < 16 := p.2.isLt
    omega⟩

theorem xIx_inj {p q : Pair × Fin 4} (h : xIx p = xIx q) : p = q := by
  have h' : 4 * (16 * p.1.1.val + p.1.2.val) + p.2.val = 4 * (16 * q.1.1.val + q.1.2.val) + q.2.val := congrArg Fin.val h
  have h1 := p.2.isLt
  have h2 := q.2.isLt
  exact Prod.ext (wId_inj (by omega)) (Fin.ext (by omega))
theorem oIx_inj {p q : Pair} (h : oIx p = oIx q) : p = q := wId_inj (congrArg Fin.val h)

theorem xIx_surj (i : Fin 128) : ∃ p, xIx p = i := by
  have h := i.isLt
  refine ⟨(pairOf (i.val / 4) (by omega), ⟨i.val % 4, by omega⟩), Fin.ext ?_⟩
  show 4 * (16 * (i.val / 4 / 16) + i.val / 4 % 16) + i.val % 4 = i.val
  omega
theorem oIx_surj (i : Fin 32) : ∃ p, oIx p = i := by
  refine ⟨pairOf i.val i.isLt, Fin.ext ?_⟩
  show 16 * (i.val / 16) + i.val % 16 = i.val
  omega

omit [FloatOps F] in
/-- The flattened operand whole is the tiles' rows of it. -/
theorem xPts_split (d : Dev nD) (X : Flat.Idx → F .f32) :
    (xLoc d ↦{fullShare} X : sProp 𝕄)
      = bigSep Finset.univ fun c : Fin (grid0.bound 0) => bigSep Finset.univ fun i : Fin (grid0.bound 1) => xPieces d (coordsV c i) X := by
  have hc : (Finset.univ : Finset (Pair × Fin 4)).biUnion (fun p => (xPart (xIx p)).set) = Finset.univ := by
    refine Finset.eq_univ_of_forall fun x => ?_
    have hx : x ∈ (Finset.univ : Finset (Fin 128)).biUnion (fun i => (xPart i).set) := by rw [Rect.biUnion_part hdivX]; exact Finset.mem_univ x
    obtain ⟨i, -, hi⟩ := Finset.mem_biUnion.mp hx
    obtain ⟨p, rfl⟩ := xIx_surj i
    exact Finset.mem_biUnion.mpr ⟨p, Finset.mem_univ p, hi⟩
  have h : (xLoc d ↦[(Finset.univ : Finset (Pair × Fin 4)).biUnion fun p => (xPart (xIx p)).set]{fullShare} X : sProp 𝕄)
      = bigSep Finset.univ fun p : Pair × Fin 4 => xLoc d ↦[(xPart (xIx p)).set]{fullShare} X :=
    pointsTo_biUnion Finset.univ (ℓ := xLoc d) (fun p => (xPart (xIx p)).set)
      (fun p _ q _ hpq => Rect.part_disjoint hdivX fun e => hpq (xIx_inj e))
  rw [hc] at h
  refine h.trans ?_
  rw [← Finset.univ_product_univ, SparseCore.bigSep_product, ← Finset.univ_product_univ, SparseCore.bigSep_product]
  refine bigSep_congr fun c _ => bigSep_congr fun i _ => ?_
  rw [Ring.bigSep_fin4]
  unfold xPieces
  rw [xRect_eq _ _ (xIx ((c, i), 0)).isLt (off_x0 (coordsV c i)), xRect_eq _ _ (xIx ((c, i), 1)).isLt (off_x1 (coordsV c i)),
    xRect_eq _ _ (xIx ((c, i), 2)).isLt (off_x2 (coordsV c i)), xRect_eq _ _ (xIx ((c, i), 3)).isLt (off_x3 (coordsV c i))]

omit [FloatOps F] in
/-- The tiles' words whole are the tiles' rows of them. -/
theorem oPts_split (d : Dev nD) (f : Buf (Elt F) (oLoc d)) :
    (oLoc d ↦{fullShare} f : sProp 𝕄)
      = bigSep Finset.univ fun c : Fin (grid0.bound 0) => bigSep Finset.univ fun i : Fin (grid0.bound 1) => oPiece d (coordsV c i) f := by
  have hc : (Finset.univ : Finset Pair).biUnion (fun p => (oPart (oIx p)).set) = Finset.univ := by
    refine Finset.eq_univ_of_forall fun x => ?_
    have hx : x ∈ (Finset.univ : Finset (Fin 32)).biUnion (fun i => (oPart i).set) := by rw [Rect.biUnion_part hdivO]; exact Finset.mem_univ x
    obtain ⟨i, -, hi⟩ := Finset.mem_biUnion.mp hx
    obtain ⟨p, rfl⟩ := oIx_surj i
    exact Finset.mem_biUnion.mpr ⟨p, Finset.mem_univ p, hi⟩
  have h : (oLoc d ↦[(Finset.univ : Finset Pair).biUnion fun p => (oPart (oIx p)).set]{fullShare} f : sProp 𝕄)
      = bigSep Finset.univ fun p : Pair => oLoc d ↦[(oPart (oIx p)).set]{fullShare} f :=
    pointsTo_biUnion Finset.univ (ℓ := oLoc d) (fun p => (oPart (oIx p)).set)
      (fun p _ q _ hpq => Rect.part_disjoint hdivO fun e => hpq (oIx_inj e))
  rw [hc] at h
  refine h.trans ?_
  rw [← Finset.univ_product_univ, SparseCore.bigSep_product]
  refine bigSep_congr fun c _ => bigSep_congr fun i _ => ?_
  unfold oPiece
  rw [oRow_set]
  rfl

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the host's core -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev s' : DevRef τ sig := Proc.devRef .tc (main_v2 : Ref sig .tc)
abbrev r' : DevRef τ sig := Proc.devRef .tc (main_v3 : Ref sig .tc)

/-- The three operations around the call: the operand flattened, the first four columns taken, the columns flattened. -/
abbrev opFlat : HloOp τ sig (Elt F) := StableHlo.reshape main_arg0 main_v0 rfl shapeCasts_S128x32768_S4194304
abbrev opCols : HloOp τ sig (Elt F) := StableHlo.unary main_v1 main_v2 (extractStridedSlice S32x4 ![0, 0] · slices_S32x16_S32x4_0_0)
abbrev opOut : HloOp τ sig (Elt F) := StableHlo.reshape main_v2 main_v3 rfl shapeCasts_S32x4_S128

/-- The five arrays. -/
abbrev S5 : Finset (DevRef τ sig) := {a', x', o', s', r'}

omit [FloatOps F] in
theorem held_S5 (d : Dev nD) (V : Valuation τ sig (Elt F)) :
    (held (T d) S5 V : sProp 𝕄)
      = iprop((aLoc d ↦{fullShare} V a') ∗ (xLoc d ↦{fullShare} V x') ∗ (oLoc d ↦{fullShare} V o') ∗ (sLoc d ↦{fullShare} V s')
          ∗ rLoc d ↦{fullShare} V r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1)
          ∗ (sLoc d ↦{fullShare} W main_v2) ∗ rLoc d ↦{fullShare} W main_v3) := by
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide),
    SparseCore.bigSep_insert' (by decide), bigSep_singleton]

/-- The arrays at launch, after the flattening, and after the call. -/
def V0 (d : Dev nD) : Valuation τ sig (Elt F) := fun b => m (d, b)
def V1 (d : Dev nD) : Valuation τ sig (Elt F) := (opFlat (F := F)).result (V0 m d)
def V2 (d : Dev nD) : Valuation τ sig (Elt F) := Function.update (V1 m d) o' (allWords (flat m d))
def V4 (d : Dev nD) : Valuation τ sig (Elt F) := (opOut (F := F)).result ((opCols (F := F)).result (V2 m d))

theorem unscoped_held (d : Dev nD) : (unscopedBufs d (fun b => m ((SparseCore.T d).loc b)) : sProp 𝕄) = held (T d) S5 (V0 m d) := by
  rw [unscopedBufs_eq, held_S5]; rfl

theorem V1_a (d : Dev nD) : V1 m d a' = m (aLoc d) := by
  unfold V1
  rw [(opFlat (F := F)).result_of_not_mem _ (show a' ∉ ({x'} : Finset (DevRef τ sig)) by decide)]; rfl
theorem V1_x (d : Dev nD) : V1 m d x' = flat m d := StableHlo.reshape_result _ _ _ _ _ _ _
theorem V1_o (d : Dev nD) : V1 m d o' = m (oLoc d) := by
  unfold V1
  rw [(opFlat (F := F)).result_of_not_mem _ (show o' ∉ ({x'} : Finset (DevRef τ sig)) by decide)]; rfl
theorem V2_a (d : Dev nD) : V2 m d a' = m (aLoc d) := (Function.update_of_ne (show a' ≠ o' by decide) _ _).trans (V1_a m d)
theorem V2_x (d : Dev nD) : V2 m d x' = flat m d := (Function.update_of_ne (show x' ≠ o' by decide) _ _).trans (V1_x m d)
theorem V2_o (d : Dev nD) : V2 m d o' = allWords (flat m d) := Function.update_self _ _ _
theorem V2_s (d : Dev nD) : V2 m d s' = V1 m d s' := Function.update_of_ne (show s' ≠ o' by decide) _ _
theorem V2_r (d : Dev nD) : V2 m d r' = V1 m d r' := Function.update_of_ne (show r' ≠ o' by decide) _ _
theorem V4_a (d : Dev nD) : V4 m d a' = m (aLoc d) := by
  unfold V4
  rw [(opOut (F := F)).result_of_not_mem _ (show a' ∉ ({r'} : Finset (DevRef τ sig)) by decide),
    (opCols (F := F)).result_of_not_mem _ (show a' ∉ ({s'} : Finset (DevRef τ sig)) by decide), V2_a]
theorem V4_r (d : Dev nD) : V4 m d r' = result m d := by
  have h : (opCols (F := F)).result (V2 m d) s' = cols (flat m d) := (StableHlo.unary_result _ _ _ _ _ _).trans (by rw [V2_o]; rfl)
  refine (StableHlo.reshape_result _ _ _ _ _ _ _).trans ?_
  rw [h]; rfl

theorem st0_eq (d : Dev nD) :
    (bigSep Finset.univ fun c : Fin ((K (F := F)).nCore 0) => (P m).st 0 d c)
      = iprop((xLoc d ↦{fullShare} flat m d) ∗ oLoc d ↦{fullShare} m (oLoc d)) := by
  show (bigSep Finset.univ fun c : Fin (grid0.bound 0) => bigSep Finset.univ fun i : Fin (grid0.bound 1) => goPts m d (coordsV c i)) = _
  rw [xPts_split, oPts_split, ← bigSep_sep']
  exact bigSep_congr fun c _ => bigSep_sep' _ _ _
theorem dn0_eq (d : Dev nD) :
    (bigSep Finset.univ fun c : Fin ((K (F := F)).nCore 0) => (P m).dn 0 d c)
      = iprop((xLoc d ↦{fullShare} flat m d) ∗ oLoc d ↦{fullShare} allWords (flat m d)) := by
  show (bigSep Finset.univ fun c : Fin (grid0.bound 0) => bigSep Finset.univ fun i : Fin (grid0.bound 1) => tdPts m d (coordsV c i)) = _
  rw [xPts_split, oPts_split, ← bigSep_sep']
  exact bigSep_congr fun c _ => bigSep_sep' _ _ _

theorem hFlat : (opFlat (F := F)).bufs ⊆ S5 := show ({a', x'} : Finset (DevRef τ sig)) ⊆ S5 by decide
theorem hCols : (opCols (F := F)).bufs ⊆ S5 := show ({o', s'} : Finset (DevRef τ sig)) ⊆ S5 by decide
theorem hOut : (opOut (F := F)).bufs ⊆ S5 := show ({s', r'} : Finset (DevRef τ sig)) ⊆ S5 by decide

/-- What the program leaves: the operand as at launch, the result at `result`. -/
abbrev FIN (d : Dev nD) : sProp 𝕄 := iprop((aLoc d ↦{fullShare} m (aLoc d)) ∗ rLoc d ↦{fullShare} result m d)

/-- The program on device `d`'s host core: the flattening, the call, the columns, the flattening. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S5) hFlat (V := V0 m d)) $$ [Hb Hheld]
  · isplitl [Hb] <;> iassumption
  iintro ⟨Hb, Hheld⟩
  rw [wp_ret]; imodintro
  ihave Hh := (Entails.of_eq ((show held (SparseCore.T d) S5 ((opFlat (F := F)).result (V0 m d)) = held (T d) S5 (V1 m d) from rfl).trans
    (held_S5 (F := F) d (V1 m d)))) $$ Hheld
  rw [V1_a, V1_x, V1_o]
  icases Hh with ⟨Ha, Hx, Ho, Hs, Hr⟩
  iapply ((K (F := F)).wp_run (D (F := F)) 𝒱 (EH := EH) (P := P m) κ d 0) $$ [Hst Hx Ho Hb Ha Hs Hr Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opCols) (S := S5) hCols (V := V2 m d)) $$ [Hb Hx Ha Ho Hs Hr]
  · isplitl [Hb]; · iexact Hb
    rw [held_S5, V2_a, V2_x, V2_o, V2_s, V2_r]
    isplitl [Ha]; · iexact Ha
    isplitl [Hx]; · iexact Hx
    isplitl [Ho]; · iexact Ho
    isplitl [Hs]; · iexact Hs
    iexact Hr
  iintro ⟨Hb, Hheld⟩
  rw [wp_ret]; imodintro
  iapply (wp_hlo_within 𝒱 (SparseCore.T d) none Set.univ (op := opOut) (S := S5) hOut (V := (opCols (F := F)).result (V2 m d))) $$ [Hb Hheld]
  · isplitl [Hb] <;> iassumption
  iintro ⟨Hb, Hheld⟩
  ihave Hh := (Entails.of_eq ((show held (SparseCore.T d) S5 ((opOut (F := F)).result ((opCols (F := F)).result (V2 m d))) = held (T d) S5 (V4 m d) from rfl).trans
    (held_S5 (F := F) d (V4 m d)))) $$ Hheld
  rw [V4_a, V4_r]
  icases Hh with ⟨Ha, -, -, -, Hr⟩
  rw [wp_ret]; imodintro; imodintro
  isplitl [Hst]; · iexact Hst
  isplitr [Hb Hts]
  · isplitl [Ha]; · iexact Ha
    iexact Hr
  isplitl [Hb] <;> iassumption

/-- What the claims read of device `d`'s final state. -/
def fq (d : Dev nD) (st : Phys nD τ sig (Elt F)) : Prop := st.mem.mem (rLoc d) = result m d ∧ st.mem.mem (aLoc d) = m (aLoc d)

theorem hfin (d : Dev nD) (st : Phys nD τ sig (Elt F)) : iprop(FIN m d ∗ SI st) ⊢ (⌜fq m d st⌝ : sProp 𝕄) := by
  iintro ⟨⟨Ha, Hr⟩, HSI⟩
  ihave H := (persistent_entails_right (SI_pointsTo_agree (st := st) (ℓ := aLoc d) (I := Finset.univ) (q := fullShare) (f := m (aLoc d)))) $$ [HSI Ha]
  · isplitl [HSI] <;> iassumption
  icases H with ⟨%ha, HSI, -⟩
  ihave H := (SI_pointsTo_agree (st := st) (ℓ := rLoc d) (I := Finset.univ) (q := fullShare) (f := result m d)) $$ [HSI Hr]
  · isplitl [HSI] <;> iassumption
  icases H with %hr
  ipureintro; exact ⟨funext fun i => hr i (Finset.mem_univ i), funext fun i => ha i (Finset.mem_univ i)⟩

/-! ## The program's run -/

/-- The end of a run: the result at `result`, the operand as at launch, every semaphore at zero. -/
def QC : PUnit × MemSt nD τ sig (Elt F) → Prop := fun r =>
  (∀ c : Dev nD, r.2.mem (rLoc c) = result m c ∧ r.2.mem (aLoc c) = m (aLoc c)) ∧ r.2.sem = fun _ => 0

/-- Every run of the program ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The program runs, leaves its argument alone and ends with every semaphore at zero. -/
theorem frame : Cert.quiescent_KernelIdeal := fun m ρ _ => θ_run_mono (run_main m ρ) fun _ h => ⟨fun c => (h.1 c).2, h.2⟩

end Cert.Proof.KernelIdeal

end
-- ==== Proof.Reference.lean ====
/-
  The reference's run: three constants and the reduction of pairs, host operations only. Its argument is left alone, and
  its result is the index half of the reduction over the argument and the elements' own numbers.
-/
module

public import proofs.«01_k».proof.Defs
public import Idealize.ShloMosaic.Lib.StableHlo.Run
public import Idealize.ShloMosaic.Lib.StableHlo.RunHlo
public import Idealize.ShloMosaic.Lib.Quiescent
public import Idealize.ShloMosaic.Lib.Claim
public import Idealize.ShloMosaic.Lib.Tactic
public import proofs.«01_k».proof.Proof.Gen.ReferenceIdeal

@[expose] public section

noncomputable section

namespace Cert.Proof.ReferenceIdeal

open Cert.ReferenceIdeal Cert.ReferenceIdeal.Gen
open Idealize.ShloMosaic Idealize.SL.Sem

/-- The reference's result on the operand `A`. -/
def value (A : FVec Ideal S128x32768 .f32) : Vec Ideal S128 .i32 := fun j =>
  (Host.argReduce reducer_argmax_f32_i32 A (iotaInDim S128x32768 32 1) (constant S_ .f32 0xFF800000#32) (constantI S_ 32 0#32)
    reducesTo_S128x32768_S128_d1 h_S_ j).2

/-- Every run of the reference ends with its result at `value` of the argument and the argument as at launch. -/
theorem run_main (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r =>
      ∀ c : Dev nD, r.2.mem ((c.tc : Thread nD τ).loc main_v0) = value (m ((c.tc : Thread nD τ).loc main_arg0))
        ∧ r.2.mem ((c.tc : Thread nD τ).loc main_arg0) = m ((c.tc : Thread nD τ).loc main_arg0)) := by
  hlo_run
  rfl

/-- The reference runs, leaves its argument alone and ends with every semaphore at zero: it has none. -/
theorem frame : Cert.quiescent_ReferenceIdeal := fun m ρ _ =>
  θ_run_mono (run_main m ρ) fun r h => ⟨fun c => (h c).2, sem_eq_zero_of_no_sems (by decide) r.2⟩

end Cert.Proof.ReferenceIdeal

end
-- ==== Proof.Best.lean ====
/-
  The first place of the greatest of a set of numbered extended reals, and how it is found piece by piece: from nothing,
  one element at a time, and from two parts. The words a program numbers the elements with are read here too. No program
  is mentioned.
-/
module

public import Idealize.ShloMosaic.PureOps.Ideal.Laws

@[expose] public section

namespace Cert.Proof.Argmax

open Idealize.ShloMosaic

/-- `v` is at least every `f j` with `j` in `S`, and no `j` in `S` before `i` reaches it; `v` is `f i` with `i` in `S`,
    unless it is minus infinity and `i` the number `d` the search began with. -/
def Upto (f : Nat → EReal) (S : Nat → Prop) (d : Nat) (v : EReal) (i : Nat) : Prop :=
  ((v = ⊥ ∧ i = d) ∨ (S i ∧ v = f i)) ∧ ∀ j, S j → f j < v ∨ (f j = v ∧ i ≤ j)

/-- `f i` is the greatest of the `f j` with `j` in `S`, and `i` is the first place it is met at. -/
def Best (f : Nat → EReal) (S : Nat → Prop) (v : EReal) (i : Nat) : Prop :=
  (S i ∧ v = f i) ∧ ∀ j, S j → f j < v ∨ (f j = v ∧ i ≤ j)

/-- The search begins at minus infinity, over nothing. -/
theorem Upto.nil (f : Nat → EReal) (S : Nat → Prop) (d : Nat) (h : ∀ j, ¬ S j) : Upto f S d ⊥ d :=
  ⟨.inl ⟨rfl, rfl⟩, fun j hj => absurd hj (h j)⟩

/-- A search that began at an element of the set has found the set's best. -/
theorem Upto.best {f : Nat → EReal} {S : Nat → Prop} {d : Nat} {v : EReal} {i : Nat} (h : Upto f S d v i) (hd : S d) : Best f S v i := by
  refine ⟨?_, h.2⟩
  rcases h.1 with ⟨rfl, rfl⟩ | h1
  · refine ⟨hd, ?_⟩
    rcases h.2 i hd with h2 | h2
    · exact absurd h2 not_lt_bot
    · exact h2.1.symm
  · exact h1

/-- Two parts' bests make the whole's: the greater value, and of equal values the smaller number. -/
theorem Best.merge {f : Nat → EReal} {S T U : Nat → Prop} {v w : EReal} {i j : Nat} (h : Best f S v i) (k : Best f T w j)
    (hU : ∀ n, U n ↔ S n ∨ T n) :
    Best f U (if v < w ∨ (w = v ∧ j < i) then w else v) (if v < w ∨ (w = v ∧ j < i) then j else i) := by
  by_cases c : v < w ∨ (w = v ∧ j < i)
  · rw [if_pos c, if_pos c]
    refine ⟨⟨(hU j).mpr (.inr k.1.1), k.1.2⟩, fun n hn => ?_⟩
    rcases (hU n).mp hn with hs | ht
    · rcases c with c | ⟨rfl, c⟩
      · rcases h.2 n hs with a | a
        · exact .inl (a.trans c)
        · exact .inl (a.1 ▸ c)
      · rcases h.2 n hs with a | a
        · exact .inl a
        · exact .inr ⟨a.1, by omega⟩
    · exact k.2 n ht
  · rw [if_neg c, if_neg c]
    refine ⟨⟨(hU i).mpr (.inl h.1.1), h.1.2⟩, fun n hn => ?_⟩
    rcases (hU n).mp hn with hs | ht
    · exact h.2 n hs
    · have c1 : ¬ v < w := fun e => c (.inl e)
      rcases lt_or_eq_of_le (not_lt.mp c1) with c2 | rfl
      · rcases k.2 n ht with a | a
        · exact .inl (a.trans c2)
        · exact .inl (a.1 ▸ c2)
      · have c3 : ¬ j < i := fun e => c (.inr ⟨rfl, e⟩)
        rcases k.2 n ht with a | a
        · exact .inl a
        · exact .inr ⟨a.1, by omega⟩

/-- One more element `n`, taken where it is greater, or as great and numbered lower. -/
theorem Upto.take {f : Nat → EReal} {S U : Nat → Prop} {d : Nat} {v : EReal} {i : Nat} (h : Upto f S d v i) (n : Nat)
    (hU : ∀ j, U j ↔ S j ∨ j = n) (hc : v < f n ∨ (f n = v ∧ n ≤ i)) : Upto f U d (f n) n := by
  refine ⟨.inr ⟨(hU n).mpr (.inr rfl), rfl⟩, fun j hj => ?_⟩
  rcases (hU j).mp hj with hs | rfl
  · rcases hc with c | ⟨c, c'⟩
    · rcases h.2 j hs with a | a
      · exact .inl (a.trans c)
      · exact .inl (a.1 ▸ c)
    · rcases h.2 j hs with a | a
      · exact .inl (c ▸ a)
      · exact .inr ⟨a.1.trans c.symm, by omega⟩
  · exact .inr ⟨rfl, le_rfl⟩

/-- One more element `n`, passed over where it is smaller, or as great and not numbered lower. -/
theorem Upto.pass {f : Nat → EReal} {S U : Nat → Prop} {d : Nat} {v : EReal} {i : Nat} (h : Upto f S d v i) (n : Nat)
    (hU : ∀ j, U j ↔ S j ∨ j = n) (hc : f n < v ∨ (f n = v ∧ i ≤ n)) : Upto f U d v i := by
  refine ⟨h.1.imp_right fun a => ⟨(hU i).mpr (.inl a.1), a.2⟩, fun j hj => ?_⟩
  rcases (hU j).mp hj with hs | rfl
  · exact h.2 j hs
  · exact hc

/-- The best of a set is one. -/
theorem Best.unique {f : Nat → EReal} {S : Nat → Prop} {v w : EReal} {i j : Nat} (h : Best f S v i) (k : Best f S w j) : i = j := by
  have a := h.2 j k.1.1
  have b := k.2 i h.1.1
  rw [← k.1.2] at a
  rw [← h.1.2] at b
  rcases a with a | ⟨a, a'⟩ <;> rcases b with b | ⟨b, b'⟩
  · exact absurd (a.trans b) (lt_irrefl _)
  · exact absurd (b ▸ a) (lt_irrefl _)
  · exact absurd (a ▸ b) (lt_irrefl _)
  · omega

/-! ## Reading the operations -/

/-- A choice by a decided proposition. -/
theorem select_ofBool {α : Type} (p : Prop) [Decidable p] (a b : α) : Scalar.select (BitVec.ofBool (decide p)) a b = if p then a else b := by
  unfold Scalar.select
  by_cases h : p <;> simp [h]

/-- Below 32768 the signed order of words is the order of the numbers. -/
theorem slt_ofNat {i j : Nat} (hi : i < 32768) (hj : j < 32768) : (BitVec.ofNat 32 i).slt (BitVec.ofNat 32 j) = decide (i < j) := by
  rw [BitVec.slt_eq_decide, BitVec.toInt_eq_toNat_of_lt, BitVec.toInt_eq_toNat_of_lt, BitVec.toNat_ofNat, BitVec.toNat_ofNat,
    Nat.mod_eq_of_lt (by omega), Nat.mod_eq_of_lt (by omega)]
  · exact decide_eq_decide.mpr Int.ofNat_lt
  · rw [BitVec.toNat_ofNat, Nat.mod_eq_of_lt (by omega)]; omega
  · rw [BitVec.toNat_ofNat, Nat.mod_eq_of_lt (by omega)]; omega

theorem ofBool_or (a b : Bool) : BitVec.ofBool a ||| BitVec.ofBool b = BitVec.ofBool (a || b) := by cases a <;> cases b <;> rfl
theorem ofBool_and (a b : Bool) : BitVec.ofBool a &&& BitVec.ofBool b = BitVec.ofBool (a && b) := by cases a <;> cases b <;> rfl

/-- The word of minus infinity. -/
theorem negInf : (Ideal.ofBits .f32 0xFF800000#32 : EReal) = ⊥ := by simp [Ideal.ofBits, Ideal.ieee]

end Cert.Proof.Argmax

end
-- ==== Proof.RowIdeal.lean ====
/-
  The kernel's answer for one row, read at the extended reals: the lanes' running maxima hold the best of the elements of
  their own residue modulo 16, each exchange doubles the elements a lane answers for, and after four of them every lane
  has the first place of the row's maximum.
-/
module

public import proofs.«01_k».proof.Proof.Scan
public import proofs.«01_k».proof.Proof.Best

@[expose] public section

noncomputable section

namespace Cert.Proof.Argmax

open Idealize.ShloMosaic

/-- Element `i` of a row. -/
def elt (R : Vec Ideal Row .f32) (i : Nat) : EReal :=
  R (fun a => match a with | ⟨0, _⟩ => ⟨i % 32768, Nat.mod_lt _ (by decide)⟩)

theorem lane_lt (x : L16.Idx) : (x 0).val < 16 := (x 0).isLt

theorem lanes_apply (x : L16.Idx) : lanes x = BitVec.ofNat 32 (x 0).val := by
  show BitVec.ofNat 32 _ = _
  congr 1
  show 0 * _ + (x 0).val = _
  omega

/-! ## The scan -/

/-- The elements lane `l` has seen after `n` chunks. -/
def Seen (n l : Nat) (i : Nat) : Prop := i < 16 * n ∧ i % 16 = l

theorem seen_succ (n l : Nat) (hl : l < 16) (j : Nat) : Seen (n + 1) l j ↔ Seen n l j ∨ j = 16 * n + l := by
  unfold Seen
  omega

/-- After `n` chunks a lane holds the best of what it has seen, and the number of the chunk it met it in. -/
theorem scan_upto (R : Vec Ideal Row .f32) (x : L16.Idx) (n : Nat) :
    ∃ k : Nat, (scan R n).2 x = BitVec.ofNat 32 k ∧ (k = 0 ∨ k < n) ∧
      Upto (elt R) (Seen n (x 0).val) (x 0).val ((scan R n).1 x) (16 * k + (x 0).val) := by
  induction n with
  | zero =>
    refine ⟨0, ?_, .inl rfl, ?_⟩
    · rw [scan_zero]; rfl
    · rw [scan_zero]
      have e : (start (F := Ideal)).1 x = (⊥ : EReal) := negInf
      rw [e, Nat.mul_zero, Nat.zero_add]
      exact Upto.nil _ _ _ fun j h => by unfold Seen at h; omega
  | succ n ih =>
    obtain ⟨k, hk, hk', h⟩ := ih
    have hv : (scan R (n + 1)).1 x = if (scan R n).1 x < elt R (16 * n + (x 0).val) then elt R (16 * n + (x 0).val) else (scan R n).1 x := by
      rw [scan_succ]; exact select_ofBool _ _ _
    have hi : (scan R (n + 1)).2 x = if (scan R n).1 x < elt R (16 * n + (x 0).val) then Scf.iv 0#32 1#32 n else (scan R n).2 x := by
      rw [scan_succ]; exact select_ofBool _ _ _
    have e : Scf.iv 0#32 1#32 n = BitVec.ofNat 32 n := by simp [Scf.iv]
    rw [hv, hi]
    by_cases c : (scan R n).1 x < elt R (16 * n + (x 0).val)
    · rw [if_pos c, if_pos c]
      exact ⟨n, e, .inr (Nat.lt_succ_self n), h.take _ (seen_succ n _ (lane_lt x)) (.inl c)⟩
    · rw [if_neg c, if_neg c]
      refine ⟨k, hk, by omega, h.pass _ (seen_succ n _ (lane_lt x)) ?_⟩
      rcases lt_or_eq_of_le (not_lt.mp c) with c | c
      · exact .inl c
      · exact .inr ⟨c, by omega⟩

/-! ## The exchanges -/

/-- The elements lane `l` answers for while the lanes' numbers still count in the bits of `w` only. -/
def Near (w l : Nat) (i : Nat) : Prop := i < 32768 ∧ (i % 16) &&& w = l &&& w

/-- Every lane holds the best of what it answers for, and the number of that element. -/
def Holds (R : Vec Ideal Row .f32) (w : Nat) (p : Vec Ideal L16 .f32 × Vec Ideal L16 .i32) : Prop :=
  ∀ x : L16.Idx, ∃ i : Nat, p.2 x = BitVec.ofNat 32 i ∧ Best (elt R) (Near w (x 0).val) (p.1 x) i

theorem and_fifteen (l : Nat) (h : l < 16) : l &&& 15 = l := by
  rw [show (15 : Nat) = 2 ^ 4 - 1 from rfl, Nat.and_two_pow_sub_one_eq_mod]; omega

/-- After the whole row every lane holds the best of the elements of its own residue. -/
theorem found_holds (R : Vec Ideal Row .f32) : Holds R 15 (found R) := by
  intro x
  obtain ⟨k, hk, _, h⟩ := scan_upto R x 2048
  refine ⟨16 * k + (x 0).val, ?_, ?_⟩
  · show (scan R 2048).2 x * 16#32 + lanes x = _
    rw [hk, lanes_apply, show (16#32 : BitVec 32) = BitVec.ofNat 32 16 from rfl, ← BitVec.ofNat_mul, ← BitVec.ofNat_add, Nat.mul_comm]
  · have e : Near 15 (x 0).val = Seen 2048 (x 0).val := by
      funext j
      unfold Near Seen
      rw [and_fifteen _ (Nat.mod_lt _ (by decide)), and_fifteen _ (lane_lt x)]
    rw [e]
    exact h.best ⟨by have := lane_lt x; omega, Nat.mod_eq_of_lt (lane_lt x)⟩

/-- One exchange over the bit `b`: a lane then answers for its partner's elements too. `h` says, for the sixteen lanes and
    the sixteen residues, that the elements a lane answers for with the bits `u` are its own and its partner's with the bits `w`. -/
theorem exchange_holds (R : Vec Ideal Row .f32) (w u : Nat) (b : BitVec 32) (hb : b.toNat < 16)
    (h : ∀ r l : Fin 16, (r.val &&& u = l.val &&& u) ↔ (r.val &&& w = l.val &&& w ∨ r.val &&& w = (l.val ^^^ b.toNat) &&& w))
    (p : Vec Ideal L16 .f32 × Vec Ideal L16 .i32) (hp : Holds R w p) : Holds R u (exchange b p) := by
  intro x
  obtain ⟨i, hi, hx⟩ := hp x
  have hl : (partner b x).toNat % 16 = (x 0).val ^^^ b.toNat := by
    show (lanes x ^^^ b).toNat % 16 = _
    have := lane_lt x
    have h2 : (x 0).val ^^^ b.toNat < 2 ^ 4 := Nat.xor_lt_two_pow (by omega) (by omega)
    rw [lanes_apply, BitVec.toNat_xor, BitVec.toNat_ofNat, Nat.mod_eq_of_lt (a := (x 0).val) (by omega)]
    omega
  obtain ⟨j, hj, hy⟩ := hp (fun a => match a with | ⟨0, _⟩ => ⟨(partner b x).toNat % 16, Nat.mod_lt _ (by decide)⟩)
  have hy' : Best (elt R) (Near w ((x 0).val ^^^ b.toNat)) (gather p.1 (partner b) x) j := hl ▸ hy
  have hj' : gather p.2 (partner b) x = BitVec.ofNat 32 j := hj
  have hU : ∀ n, Near u (x 0).val n ↔ Near w (x 0).val n ∨ Near w ((x 0).val ^^^ b.toNat) n := by
    intro n
    have := h ⟨n % 16, Nat.mod_lt _ (by decide)⟩ ⟨(x 0).val, lane_lt x⟩
    unfold Near
    rw [this]
    tauto
  have hm := hx.merge hy' hU
  have hc : (BitVec.ofBool (decide (p.1 x < gather p.1 (partner b) x)) ||| (BitVec.ofBool (decide (gather p.1 (partner b) x = p.1 x)) &&&
      BitVec.ofBool ((gather p.2 (partner b) x).slt (p.2 x))) : BitVec 1)
      = BitVec.ofBool (decide (p.1 x < gather p.1 (partner b) x ∨ (gather p.1 (partner b) x = p.1 x ∧ j < i))) := by
    rw [hj', hi, slt_ofNat hy'.1.1.1 hx.1.1.1, ofBool_and, ofBool_or, Bool.decide_or, Bool.decide_and]
  have hv : (exchange b p).1 x = if p.1 x < gather p.1 (partner b) x ∨ (gather p.1 (partner b) x = p.1 x ∧ j < i) then gather p.1 (partner b) x else p.1 x :=
    (congrArg (fun c => Scalar.select c (gather p.1 (partner b) x) (p.1 x)) hc).trans (select_ofBool _ _ _)
  have hw : (exchange b p).2 x = if p.1 x < gather p.1 (partner b) x ∨ (gather p.1 (partner b) x = p.1 x ∧ j < i) then gather p.2 (partner b) x else p.2 x :=
    (congrArg (fun c => Scalar.select c (gather p.2 (partner b) x) (p.2 x)) hc).trans (select_ofBool _ _ _)
  refine ⟨_, ?_, hv ▸ hm⟩
  rw [hw, hj', hi]
  split <;> rfl

/-- Every lane of the row's answer is the first place of the row's maximum. -/
theorem rowArg_best (R : Vec Ideal Row .f32) (x : L16.Idx) :
    ∃ (i : Nat) (v : EReal), rowArg R x = BitVec.ofNat 32 i ∧ Best (elt R) (fun i => i < 32768) v i := by
  have h := exchange_holds R 1 0 1#32 (by decide) (by decide) _ (exchange_holds R 3 1 2#32 (by decide) (by decide) _
    (exchange_holds R 7 3 4#32 (by decide) (by decide) _ (exchange_holds R 15 7 8#32 (by decide) (by decide) _ (found_holds R))))
  obtain ⟨i, hi, hx⟩ := h x
  have e : Near 0 (x 0).val = fun i => i < 32768 := by
    funext j
    unfold Near
    rw [Nat.and_zero, Nat.and_zero]
    simp
  exact ⟨i, _, hi, e ▸ hx⟩

end Cert.Proof.Argmax

end
-- ==== Proof.RefValue.lean ====
/-
  The reference's answer for one row, read at the extended reals: its fold over the row, in whatever order, keeps the best
  element so far, so it ends at the first place of the row's maximum.
-/
module

public import proofs.«01_k».proof.Proof.Reference
public import proofs.«01_k».proof.Proof.RowIdeal

@[expose] public section

noncomputable section

namespace Cert.Proof.ReferenceIdeal

open Cert.ReferenceIdeal Cert.ReferenceIdeal.Gen Cert.Proof.Argmax
open Idealize.ShloMosaic

/-- One step of the reference's fold: the value kept. -/
theorem reducer_fst (a b : Ideal .f32 × BitVec 32) : (reducer_argmax_f32_i32 (F := Ideal) a b).1 = if b.1 < a.1 then a.1 else b.1 := by
  have e : (BitVec.ofBool (decide (b.1 < a.1)) ||| BitVec.ofBool (decide (a.1 ≠ a.1)) : BitVec 1) = BitVec.ofBool (decide (b.1 < a.1)) := by
    rw [ofBool_or]; simp
  exact (congrArg (fun c => Scalar.select c a.1 b.1) e).trans (select_ofBool _ _ _)

/-- One step of the reference's fold: the index kept. -/
theorem reducer_snd (v w : Ideal .f32) (i j : Nat) (hi : i < 32768) (hj : j < 32768) :
    (reducer_argmax_f32_i32 (F := Ideal) (v, BitVec.ofNat 32 i) (w, BitVec.ofNat 32 j)).2
      = BitVec.ofNat 32 (if w < v ∨ (v = w ∧ i < j) then i else j) := by
  have e : ((BitVec.ofBool (decide (w < v)) ||| BitVec.ofBool (decide (v ≠ v))) ||| (BitVec.ofBool (decide (v = w)) &&&
      BitVec.ofBool ((BitVec.ofNat 32 i).slt (BitVec.ofNat 32 j))) : BitVec 1) = BitVec.ofBool (decide (w < v ∨ (v = w ∧ i < j))) := by
    rw [slt_ofNat hi hj, ofBool_or, ofBool_and, ofBool_or]; simp
  refine ((congrArg (fun c => Scalar.select c (BitVec.ofNat 32 i) (BitVec.ofNat 32 j)) e).trans (select_ofBool _ _ _)).trans ?_
  split <;> rfl

/-- The fold over the elements of a list: the best of them and of what was seen before. -/
theorem fold_upto (f : Nat → EReal) (l : List Nat) (hl : ∀ n ∈ l, n < 32768) : ∀ (S : Nat → Prop) (v : EReal) (i : Nat), i < 32768 → Upto f S 0 v i →
    ∃ k : Nat, k < 32768 ∧
      ((l.map fun n => ((f n, BitVec.ofNat 32 n) : Ideal .f32 × BitVec 32)).foldl (reducer_argmax_f32_i32 (F := Ideal)) (v, BitVec.ofNat 32 i)).2 = BitVec.ofNat 32 k ∧
      Upto f (fun n => S n ∨ n ∈ l) 0
        ((l.map fun n => ((f n, BitVec.ofNat 32 n) : Ideal .f32 × BitVec 32)).foldl (reducer_argmax_f32_i32 (F := Ideal)) (v, BitVec.ofNat 32 i)).1 k := by
  induction l with
  | nil =>
    intro S v i hi h
    exact ⟨i, hi, rfl, by simpa using h⟩
  | cons n l ih =>
    intro S v i hi h
    have hn : n < 32768 := hl n (List.mem_cons_self ..)
    have hU : ∀ j, (S j ∨ j = n) ↔ S j ∨ j = n := fun _ => Iff.rfl
    have e : reducer_argmax_f32_i32 (F := Ideal) (v, BitVec.ofNat 32 i) (f n, BitVec.ofNat 32 n)
        = (if f n < v then v else f n, BitVec.ofNat 32 (if f n < v ∨ (v = f n ∧ i < n) then i else n)) :=
      Prod.ext (reducer_fst _ _) (reducer_snd v (f n) i n hi hn)
    have hstep : Upto f (fun j => S j ∨ j = n) 0 (if f n < v then v else f n) (if f n < v ∨ (v = f n ∧ i < n) then i else n) := by
      rcases lt_trichotomy (f n) v with c | c | c
      · rw [if_pos c, if_pos (.inl c)]
        exact h.pass n hU (.inl c)
      · rw [if_neg (c ▸ lt_irrefl _)]
        by_cases c' : i < n
        · rw [if_pos (.inr ⟨c.symm, c'⟩), c]
          exact h.pass n hU (.inr ⟨c, c'.le⟩)
        · rw [if_neg (by rintro (a | a); exacts [absurd (c ▸ a) (lt_irrefl _), c' a.2])]
          exact h.take n hU (.inr ⟨c, not_lt.mp c'⟩)
      · rw [if_neg c.not_gt, if_neg (by rintro (a | a); exacts [c.not_gt a, c.ne a.1])]
        exact h.take n hU (.inl c)
    have hk : (if f n < v ∨ (v = f n ∧ i < n) then i else n) < 32768 := by split <;> assumption
    obtain ⟨k, h1, h2, h3⟩ := ih (fun j hj => hl j (List.mem_cons_of_mem _ hj)) _ _ _ hk hstep
    refine ⟨k, h1, ?_, ?_⟩
    · rw [List.map_cons, List.foldl_cons, e]; exact h2
    · rw [List.map_cons, List.foldl_cons, e]
      have e' : (fun j => S j ∨ j ∈ n :: l) = fun j => (S j ∨ j = n) ∨ j ∈ l := by
        funext j; rw [List.mem_cons, or_assoc]
      rw [e']; exact h3

/-- The position of element `i` of row `r`. -/
def at2 (r : S128.Idx) (i : Nat) : S128x32768.Idx := fun a => match a with
  | ⟨0, _⟩ => ⟨(r 0).val, (r 0).isLt⟩
  | ⟨1, _⟩ => ⟨i % 32768, Nat.mod_lt _ (by decide)⟩

/-- Row `r` of the operand. -/
def rowOf (A : FVec Ideal S128x32768 .f32) (r : S128.Idx) : Vec Ideal Row .f32 := fun x => A (at2 r (x 0).val)

/-- The numbers of the elements the fold of row `r` meets, in its order. -/
def cells (r : S128.Idx) : List Nat :=
  ((List.finRange S128x32768.numel).filter fun n => reducesTo_S128x32768_S128_d1.drop (S128x32768.rowMajor.symm n) = r).map
    fun n => (S128x32768.rowMajor.symm n 1).val

theorem drop_eq (r : S128.Idx) (p : S128x32768.Idx) : reducesTo_S128x32768_S128_d1.drop p = r ↔ (p 0).val = (r 0).val := by
  have e : (reducesTo_S128x32768_S128_d1.drop p 0 : Nat) = p 0 :=
    Shape.ReducesTo.drop_apply_val_of_eq reducesTo_S128x32768_S128_d1 p 0 0 (by decide) (by decide)
  constructor
  · rintro rfl; exact e.symm
  · intro h
    funext a
    match a with
    | ⟨0, _⟩ => exact Fin.ext (e.trans h)

theorem mem_cells (r : S128.Idx) (i : Nat) : i ∈ cells r ↔ i < 32768 := by
  unfold cells
  rw [List.mem_map]
  constructor
  · rintro ⟨n, _, rfl⟩
    exact (S128x32768.rowMajor.symm n 1).isLt
  · intro hi
    refine ⟨S128x32768.rowMajor (at2 r i), List.mem_filter.mpr ⟨List.mem_finRange _, ?_⟩, ?_⟩
    · rw [Equiv.symm_apply_apply]
      exact decide_eq_true ((drop_eq r _).mpr rfl)
    · rw [Equiv.symm_apply_apply]
      exact Nat.mod_eq_of_lt hi

/-- What the fold of row `r` meets: the row's elements with their numbers. -/
theorem fiber_eq (A : FVec Ideal S128x32768 .f32) (r : S128.Idx) :
    Host.argReduceFiber A (iotaInDim S128x32768 32 1) reducesTo_S128x32768_S128_d1 r
      = (cells r).map fun n => ((elt (rowOf A r) n, BitVec.ofNat 32 n) : Ideal .f32 × BitVec 32) := by
  unfold Host.argReduceFiber cells
  rw [List.map_map]
  refine List.map_congr_left fun n hn => ?_
  have h := (drop_eq r _).mp (of_decide_eq_true (List.mem_filter.mp hn).2)
  have e : S128x32768.rowMajor.symm n = at2 r ((S128x32768.rowMajor.symm n 1).val % 32768) := by
    funext a
    match a with
    | ⟨0, _⟩ => exact Fin.ext h
    | ⟨1, _⟩ =>
      refine Fin.ext ?_
      show (S128x32768.rowMajor.symm n 1).val = (S128x32768.rowMajor.symm n 1).val % 32768 % 32768
      have : (S128x32768.rowMajor.symm n 1).val < 32768 := (S128x32768.rowMajor.symm n 1).isLt
      omega
  exact Prod.ext (congrArg A e) rfl

/-- The fold begins at minus infinity and index 0. -/
theorem begin_eq : ((constant (F := Ideal) S_ .f32 0xFF800000#32 (Shape.Idx.first h_S_), constantI S_ 32 0#32 (Shape.Idx.first h_S_)) : Ideal .f32 × BitVec 32)
    = ((⊥ : EReal), BitVec.ofNat 32 0) := Prod.ext negInf rfl

/-- The fold over any shape's fiber, from any start. -/
theorem argReduce_snd {s t u : Shape} {axes : List (Fin s.rank)} {β : Type} (f : Ideal .f32 × β → Ideal .f32 × β → Ideal .f32 × β)
    (x : FVec Ideal s .f32) (y : s.Idx → β) (ix : u.Idx → Ideal .f32) (iy : u.Idx → β) (h : s.ReducesTo axes t) (hu : 0 < u.numel) (j : t.Idx)
    (l : List (Ideal .f32 × β)) (hl : Host.argReduceFiber x y h j = l) (b : Ideal .f32 × β) (hb : (ix (Shape.Idx.first hu), iy (Shape.Idx.first hu)) = b) :
    (Host.argReduce f x y ix iy h hu j).2 = (l.foldl f b).2 := by
  rw [Ideal.argReduce_eq_reduce2, Host.reduce2_eq_foldl_fiber, hl, hb]

/-- The reference's value, spelled out. -/
theorem value_def : value = fun (A : FVec Ideal S128x32768 .f32) (r : S128.Idx) =>
    (Host.argReduce reducer_argmax_f32_i32 A (iotaInDim S128x32768 32 1) (constant S_ .f32 0xFF800000#32) (constantI S_ 32 0#32)
      reducesTo_S128x32768_S128_d1 h_S_ r).2 := rfl

/-- The reference's answer for row `r` is that fold. -/
theorem value_eq (A : FVec Ideal S128x32768 .f32) (r : S128.Idx) :
    value A r = (((cells r).map fun n => ((elt (rowOf A r) n, BitVec.ofNat 32 n) : Ideal .f32 × BitVec 32)).foldl
      (reducer_argmax_f32_i32 (F := Ideal)) ((⊥ : EReal), BitVec.ofNat 32 0)).2 :=
  (congrFun (congrFun value_def A) r).trans (argReduce_snd _ _ _ _ _ _ _ r _ (fiber_eq A r) _ begin_eq)

/-- The reference's answer for row `r` is the first place of the row's maximum. -/
theorem value_best (A : FVec Ideal S128x32768 .f32) (r : S128.Idx) :
    ∃ (i : Nat) (v : EReal), value A r = BitVec.ofNat 32 i ∧ Best (elt (rowOf A r)) (fun i => i < 32768) v i := by
  obtain ⟨k, _, h2, h3⟩ := fold_upto (elt (rowOf A r)) (cells r) (fun n hn => (mem_cells r n).mp hn) (fun _ => False) ⊥ 0 (by decide)
    (Upto.nil _ _ _ fun _ => id)
  have hS : (fun n => False ∨ n ∈ cells r) = fun n => n < 32768 := by
    funext n; rw [false_or, mem_cells]
  rw [hS] at h3
  exact ⟨k, _, (value_eq A r).trans h2, h3.best (by decide : (0 : Nat) < 32768)⟩

end Cert.Proof.ReferenceIdeal

end
-- ==== Proof.Equation.lean ====
/-
  The kernel's result is the reference's: word `r` of the result is the answer of tile `r / 4` for its row `r % 4`, which is
  row `r` of the operand, and both programs answer a row with the first place of its maximum.
-/
module

public import proofs.«01_k».proof.Proof.IdealLaunch
public import proofs.«01_k».proof.Proof.RefValue

@[expose] public section

noncomputable section

namespace Cert.Proof.Argmax

open Idealize.ShloMosaic

variable {F : FTy → Type} [FloatOps F]

/-- Lane `q` of a placement is the placed vector's, every other lane the other's. -/
theorem place_apply (q : Nat) (hq : q < 16) (v w : Vec F L16 .i32) (x : L16.Idx) :
    place (BitVec.ofNat 32 q) v w x = if (x 0).val = q then v x else w x := by
  have e : (lanes x == BitVec.ofNat 32 q) = decide ((x 0).val = q) := by
    have hx := lane_lt x
    rw [lanes_apply, Bool.eq_iff_iff, beq_iff_eq, decide_eq_true_iff]
    constructor
    · intro h
      have h' := congrArg BitVec.toNat h
      rw [BitVec.toNat_ofNat, BitVec.toNat_ofNat, Nat.mod_eq_of_lt (by omega), Nat.mod_eq_of_lt (by omega)] at h'
      exact h'
    · intro h; rw [h]
  exact (congrArg (fun c => Scalar.select (BitVec.ofBool c) (v x) (w x)) e).trans (select_ofBool _ _ _)

/-- A tile's first four words are the answers of its four rows. -/
theorem tileWords_apply (X : Nat → Vec F Row .f32) (x : L16.Idx) (h : (x 0).val < 4) : tileWords (X 0) (X 1) (X 2) (X 3) x = rowArg (X (x 0).val) x := by
  unfold tileWords
  rw [place_apply 3 (by decide), place_apply 2 (by decide), place_apply 1 (by decide), place_apply 0 (by decide)]
  generalize (x 0).val = q at h
  obtain rfl | rfl | rfl | rfl : q = 0 ∨ q = 1 ∨ q = 2 ∨ q = 3 := by omega
  all_goals simp

/-- The first four words of row `w` of what the tiles leave are the answers of rows `4 w` to `4 w + 3`. -/
theorem allWords_apply (X : Flat.Idx → F .f32) (i : Tiles.Idx) (h : (i 1).val < 4) :
    allWords X i = rowArg (rowAt X (4 * (i 0).val + (i 1).val)) (fun a => match a with | ⟨0, _⟩ => ⟨(i 1).val, (i 1).isLt⟩) :=
  tileWords_apply (fun n => rowAt X (4 * (i 0).val + n)) (fun a => match a with | ⟨0, _⟩ => ⟨(i 1).val, (i 1).isLt⟩) h

end Cert.Proof.Argmax

namespace Cert.Proof.KernelIdeal

open Cert.KernelIdeal Cert.KernelIdeal.Gen Cert.Proof.Argmax
open Idealize.ShloMosaic

variable (m : (ℓ : Loc nD τ sig) → Buf (Elt Ideal) ℓ) (d : Dev nD)

/-- Row `r` of the flattened operand is row `r` of the operand. -/
theorem rowAt_flat (r : S128.Idx) : rowAt (flat m d) (r 0).val = ReferenceIdeal.rowOf (m (aLoc d)) r := by
  funext x
  have hr : (r 0).val < 128 := (r 0).isLt
  have hx : (x 0).val < 32768 := (x 0).isLt
  refine congrArg (m (aLoc d)) (Shape.reshapeEquiv_eq_of_rowMajor _ ?_)
  refine (Shape.rowMajor_val_two _).trans (Eq.trans ?_ (Shape.rowMajor_val_one _).symm)
  show (r 0).val * 32768 + (x 0).val % 32768 = (32768 * (r 0).val + (x 0).val) % 4194304
  omega

/-- Tile `r / 4`, lane `r % 4`. -/
def spot (r : S128.Idx) : S32x4.Idx := fun a => match a with
  | ⟨0, _⟩ => ⟨(r 0).val / 4, by have : (r 0).val < 128 := (r 0).isLt; show _ < 32; omega⟩
  | ⟨1, _⟩ => ⟨(r 0).val % 4, Nat.mod_lt _ (by decide)⟩

/-- The same word among the sixteen each tile leaves. -/
def word (r : S128.Idx) : Tiles.Idx := fun a => match a with
  | ⟨0, _⟩ => ⟨(r 0).val / 4, by have : (r 0).val < 128 := (r 0).isLt; show _ < 32; omega⟩
  | ⟨1, _⟩ => ⟨(r 0).val % 4, by show _ < 16; omega⟩

theorem cols_spot (X : Flat.Idx → Ideal .f32) (r : S128.Idx) : cols X (spot r) = allWords X (word r) := by
  unfold cols extractStridedSlice
  refine congrArg (allWords X) (funext fun a => ?_)
  match a with
  | ⟨0, _⟩ => exact Fin.ext (Nat.zero_add _)
  | ⟨1, _⟩ => exact Fin.ext (Nat.zero_add _)

/-- Word `r` of the result is the kernel's answer for row `r` of the operand. -/
theorem result_apply (r : S128.Idx) : ∃ x : L16.Idx, result m d r = rowArg (ReferenceIdeal.rowOf (m (aLoc d)) r) x := by
  have e : Shape.reshapeEquiv shapeCasts_S32x4_S128 r = spot r := by
    refine Shape.reshapeEquiv_eq_of_rowMajor _ ?_
    refine (Shape.rowMajor_val_two _).trans (Eq.trans ?_ (Shape.rowMajor_val_one _).symm)
    show (r 0).val / 4 * 4 + (r 0).val % 4 = (r 0).val
    omega
  have h1 : result m d r = cols (flat m d) (spot r) := congrArg (cols (flat m d)) e
  have h2 : 4 * ((r 0).val / 4) + (r 0).val % 4 = (r 0).val := by omega
  refine ⟨fun a => match a with | ⟨0, _⟩ => ⟨(word r 1).val, (word r 1).isLt⟩, h1.trans ((cols_spot _ r).trans ((allWords_apply (flat m d) (word r) (Nat.mod_lt _ (by decide))).trans ?_))⟩
  rw [← rowAt_flat]
  exact congrArg (fun n => rowArg (rowAt (flat m d) n) _) h2

/-- The reference's value of the operand is the kernel's result. -/
theorem value_eq_result : ReferenceIdeal.value (m (aLoc d)) = result m d := by
  funext r
  obtain ⟨x, hx⟩ := result_apply m d r
  obtain ⟨i, v, hi, h⟩ := rowArg_best (ReferenceIdeal.rowOf (m (aLoc d)) r) x
  obtain ⟨j, w, hj, k⟩ := ReferenceIdeal.value_best (m (aLoc d)) r
  rw [hx, hi, hj, h.unique k]

end Cert.Proof.KernelIdeal

end
-- ==== Proof.lean ====
/-
  The certificate: the kernel's row-wise arg-max on the SparseCore.

  `frame`s: the run of the kernel (Proof/IdealLaunch.lean at the extended reals, Proof/BitsLaunch.lean at the bits) and of the
  reference (Proof/Reference.lean), with the values dropped. `algebraic`: the kernel's run ends with its result at `result`
  of its operand, the reference's with its at `value` of the same operand, and the two are equal (Proof/Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.BitsLaunch
public import proofs.«01_k».proof.Proof.IdealLaunch
public import proofs.«01_k».proof.Proof.Reference
public import proofs.«01_k».proof.Proof.Equation

@[expose] public section

noncomputable section

namespace Cert.Proof

open Idealize.ShloMosaic Idealize.SL.Sem

/-- From memories agreeing on the operand, the kernel and the reference end with equal results. -/
theorem algebraic : Cert.algebraic_KernelIdeal_ReferenceIdeal (hKernelIdeal := Cert.KernelIdeal.Gen.facts) (hReferenceIdeal := Cert.ReferenceIdeal.Gen.facts) :=
  fun m ρ m' ρ' _ hm => ⟨fun c => KernelIdeal.result m c,
    θ_run_mono (KernelIdeal.run_main m ρ) fun _ h => h.1,
    θ_run_mono (ReferenceIdeal.run_main m' ρ') fun _ h c =>
      ⟨((h c).1.trans (congrArg ReferenceIdeal.value (hm c))).trans (KernelIdeal.value_eq_result m c), (h c).2⟩⟩

/-- Everything the certificate claims. -/
theorem claim : Cert.Claim := ⟨Cert.Kernel.Gen.facts, Cert.KernelIdeal.Gen.facts, Cert.ReferenceIdeal.Gen.facts,
  Kernel.frame, KernelIdeal.frame, ReferenceIdeal.frame, trivial, algebraic⟩

end Cert.Proof

end
